-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = Layout.block ⟨3, ![2, 512, 768]⟩ ⟨3, ![2, 2048, 768]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![768, 512]⟩ ⟨2, ![768, 2048]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![512, 768]⟩ ⟨2, ![2048, 768]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = Layout.block ⟨3, ![2, 512, 768]⟩ ⟨3, ![2, 2048, 768]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v44) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S2x512x768 : Shape := ⟨3, ![2, 512, 768]⟩
abbrev S768x512 : Shape := ⟨2, ![768, 512]⟩
abbrev S2x512x32x64 : Shape := ⟨4, ![2, 512, 32, 64]⟩
abbrev S512x768 : Shape := ⟨2, ![512, 768]⟩
abbrev S_ : Shape := ⟨0, ![]⟩

class Facts : Prop where
  bcast_S_S2x512x768 : S_.BroadcastsInDim S2x512x768 (![] : Fin 0 → Fin S2x512x768.rank)
  reducesTo_S2x512x768_S_d0_1_2 : S2x512x768.ReducesTo [0, 1, 2] S_
  h_S_ : 0 < S_.numel
  bcast_S_S768x512 : S_.BroadcastsInDim S768x512 (![] : Fin 0 → Fin S768x512.rank)
  reducesTo_S768x512_S_d0_1 : S768x512.ReducesTo [0, 1] S_
  bcast_S_S2x512x32x64 : S_.BroadcastsInDim S2x512x32x64 (![] : Fin 0 → Fin S2x512x32x64.rank)
  reducesTo_S2x512x32x64_S_d0_1_2_3 : S2x512x32x64.ReducesTo [0, 1, 2, 3] S_

variable [Facts]

def fn {F : FTy → Type} [FloatOps F] (main_arg0 : FVec F S2x512x768 .f32) (main_arg1 : FVec F S768x512 .f32) (main_arg2 : FVec F S2x512x32x64 .f32) (main_arg3 : FVec F S2x512x32x64 .f32) (main_arg4 : FVec F S512x768 .f32) : IVec S_ 1 :=
  let main_v0 : FVec F S2x512x768 .f32 := Host.absf main_arg0
  let main_cst : FVec F S_ .f32 := constant S_ .f32 0x7F800000#32
  let main_v1 : FVec F S2x512x768 .f32 := broadcastInDim S2x512x768 ![] bcast_S_S2x512x768 main_cst
  let main_v2 : IVec S2x512x768 1 := cmpf .olt main_v0 main_v1
  let main_c : IVec S_ 1 := constantI S_ 1 1#1
  let main_v3 : IVec S_ 1 := (fun x v => Host.reduce IntOp.andi x v reducesTo_S2x512x768_S_d0_1_2 h_S_) main_v2 main_c
  let main_v4 : FVec F S768x512 .f32 := Host.absf main_arg1
  let main_cst_0 : FVec F S_ .f32 := constant S_ .f32 0x7F800000#32
  let main_v5 : FVec F S768x512 .f32 := broadcastInDim S768x512 ![] bcast_S_S768x512 main_cst_0
  let main_v6 : IVec S768x512 1 := cmpf .olt main_v4 main_v5
  let main_c_1 : IVec S_ 1 := constantI S_ 1 1#1
  let main_v7 : IVec S_ 1 := (fun x v => Host.reduce IntOp.andi x v reducesTo_S768x512_S_d0_1 h_S_) main_v6 main_c_1
  let main_v8 : IVec S_ 1 := andi main_v3 main_v7
  let main_v9 : FVec F S2x512x32x64 .f32 := Host.absf main_arg2
  let main_cst_2 : FVec F S_ .f32 := constant S_ .f32 0x7F800000#32
  let main_v10 : FVec F S2x512x32x64 .f32 := broadcastInDim S2x512x32x64 ![] bcast_S_S2x512x32x64 main_cst_2
  let main_v11 : IVec S2x512x32x64 1 := cmpf .olt main_v9 main_v10
  let main_c_3 : IVec S_ 1 := constantI S_ 1 1#1
  let main_v12 : IVec S_ 1 := (fun x v => Host.reduce IntOp.andi x v reducesTo_S2x512x32x64_S_d0_1_2_3 h_S_) main_v11 main_c_3
  let main_v13 : IVec S_ 1 := andi main_v8 main_v12
  main_v13
-- ==== Pre_finite_scores_ReferenceIdeal.lean ====
abbrev S2x2048x768 : Shape := ⟨3, ![2, 2048, 768]⟩
abbrev S768x2048 : Shape := ⟨2, ![768, 2048]⟩
abbrev S2x512x32x64 : Shape := ⟨4, ![2, 512, 32, 64]⟩
abbrev S2048x768 : Shape := ⟨2, ![2048, 768]⟩
abbrev S_ : Shape := ⟨0, ![]⟩

class Facts : Prop where
  bcast_S_S2x2048x768 : S_.BroadcastsInDim S2x2048x768 (![] : Fin 0 → Fin S2x2048x768.rank)
  reducesTo_S2x2048x768_S_d0_1_2 : S2x2048x768.ReducesTo [0, 1, 2] S_
  h_S_ : 0 < S_.numel
  bcast_S_S768x2048 : S_.BroadcastsInDim S768x2048 (![] : Fin 0 → Fin S768x2048.rank)
  reducesTo_S768x2048_S_d0_1 : S768x2048.ReducesTo [0, 1] S_
  bcast_S_S2x512x32x64 : S_.BroadcastsInDim S2x512x32x64 (![] : Fin 0 → Fin S2x512x32x64.rank)
  reducesTo_S2x512x32x64_S_d0_1_2_3 : S2x512x32x64.ReducesTo [0, 1, 2, 3] S_

variable [Facts]

def fn {F : FTy → Type} [FloatOps F] (main_arg0 : FVec F S2x2048x768 .f32) (main_arg1 : FVec F S768x2048 .f32) (main_arg2 : FVec F S2x512x32x64 .f32) (main_arg3 : FVec F S2x512x32x64 .f32) (main_arg4 : FVec F S2048x768 .f32) : IVec S_ 1 :=
  let main_v0 : FVec F S2x2048x768 .f32 := Host.absf main_arg0
  let main_cst : FVec F S_ .f32 := constant S_ .f32 0x7F800000#32
  let main_v1 : FVec F S2x2048x768 .f32 := broadcastInDim S2x2048x768 ![] bcast_S_S2x2048x768 main_cst
  let main_v2 : IVec S2x2048x768 1 := cmpf .olt main_v0 main_v1
  let main_c : IVec S_ 1 := constantI S_ 1 1#1
  let main_v3 : IVec S_ 1 := (fun x v => Host.reduce IntOp.andi x v reducesTo_S2x2048x768_S_d0_1_2 h_S_) main_v2 main_c
  let main_v4 : FVec F S768x2048 .f32 := Host.absf main_arg1
  let main_cst_0 : FVec F S_ .f32 := constant S_ .f32 0x7F800000#32
  let main_v5 : FVec F S768x2048 .f32 := broadcastInDim S768x2048 ![] bcast_S_S768x2048 main_cst_0
  let main_v6 : IVec S768x2048 1 := cmpf .olt main_v4 main_v5
  let main_c_1 : IVec S_ 1 := constantI S_ 1 1#1
  let main_v7 : IVec S_ 1 := (fun x v => Host.reduce IntOp.andi x v reducesTo_S768x2048_S_d0_1 h_S_) main_v6 main_c_1
  let main_v8 : IVec S_ 1 := andi main_v3 main_v7
  let main_v9 : FVec F S2x512x32x64 .f32 := Host.absf main_arg2
  let main_cst_2 : FVec F S_ .f32 := constant S_ .f32 0x7F800000#32
  let main_v10 : FVec F S2x512x32x64 .f32 := broadcastInDim S2x512x32x64 ![] bcast_S_S2x512x32x64 main_cst_2
  let main_v11 : IVec S2x512x32x64 1 := cmpf .olt main_v9 main_v10
  let main_c_3 : IVec S_ 1 := constantI S_ 1 1#1
  let main_v12 : IVec S_ 1 := (fun x v => Host.reduce IntOp.andi x v reducesTo_S2x512x32x64_S_d0_1_2_3 h_S_) main_v11 main_c_3
  let main_v13 : IVec S_ 1 := andi main_v8 main_v12
  main_v13
-- ==== Kernel.lean ====
abbrev S2x512x768 : Shape := ⟨3, ![2, 512, 768]⟩
abbrev S768x512 : Shape := ⟨2, ![768, 512]⟩
abbrev S2x512x32x64 : Shape := ⟨4, ![2, 512, 32, 64]⟩
abbrev S512x768 : Shape := ⟨2, ![512, 768]⟩
abbrev S1024x768 : Shape := ⟨2, ![1024, 768]⟩
abbrev S2x512x2048 : Shape := ⟨3, ![2, 512, 2048]⟩
abbrev S768x2048 : Shape := ⟨2, ![768, 2048]⟩
abbrev S2048x768 : Shape := ⟨2, ![2048, 768]⟩
abbrev S6 : Shape := ⟨1, ![6]⟩
abbrev S_ : Shape := ⟨0, ![]⟩
abbrev S1 : Shape := ⟨1, ![1]⟩
abbrev S2x512x512 : Shape := ⟨3, ![2, 512, 512]⟩
abbrev S512x512 : Shape := ⟨2, ![512, 512]⟩
abbrev S1024x512 : Shape := ⟨2, ![1024, 512]⟩
abbrev S512x64 : Shape := ⟨2, ![512, 64]⟩
abbrev S1x512x64 : Shape := ⟨3, ![1, 512, 64]⟩
abbrev S512 : Shape := ⟨1, ![512]⟩
abbrev S512x1 : Shape := ⟨2, ![512, 1]⟩
abbrev S1x512x768 : Shape := ⟨3, ![1, 512, 768]⟩

abbrev nBuf : Space → Nat
  | .hbm => 9
  | .vmem => 10
  | .smem => 0
  | _ => 0

abbrev bufTy : (tb : Table) → Fin (tcTables nBuf tb) → BufTy
  | .hbm, ⟨0, _⟩ => ⟨S2x512x768, .f32⟩
  | .hbm, ⟨1, _⟩ => ⟨S768x512, .f32⟩
  | .hbm, ⟨2, _⟩ => ⟨S2x512x32x64, .f32⟩
  | .hbm, ⟨3, _⟩ => ⟨S2x512x32x64, .f32⟩
  | .hbm, ⟨4, _⟩ => ⟨S512x768, .f32⟩
  | .hbm, ⟨5, _⟩ => ⟨S1024x768, .f32⟩
  | .hbm, ⟨6, _⟩ => ⟨S2x512x2048, .f32⟩
  | .hbm, ⟨7, _⟩ => ⟨S2x512x2048, .f32⟩
  | .hbm, ⟨8, _⟩ => ⟨S2x512x768, .f32⟩
  | .local _ .vmem, ⟨0, _⟩ => ⟨S1024x768, .f32⟩
  | .local _ .vmem, ⟨1, _⟩ => ⟨S768x512, .f32⟩
  | .local _ .vmem, ⟨2, _⟩ => ⟨S2x512x2048, .f32⟩
  | .local _ .vmem, ⟨3, _⟩ => ⟨S2x512x2048, .f32⟩
  | .local _ .vmem, ⟨4, _⟩ => ⟨S512x768, .f32⟩
  | .local _ .vmem, ⟨5, _⟩ => ⟨S2x512x768, .f32⟩
  | .local _ .vmem, ⟨6, _⟩ => ⟨S768x2048, .bf16⟩
  | .local _ .vmem, ⟨7, _⟩ => ⟨S2048x768, .bf16⟩
  | .local _ .vmem, ⟨8, _⟩ => ⟨S2x512x2048, .bf16⟩
  | .local _ .vmem, ⟨9, _⟩ => ⟨S2x512x2048, .bf16⟩
  | _, _ => ⟨S2x512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 1 18 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_16 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_15 : BitVec 32 := 1#32
  let v27 : BitVec 32 := Scalar.muli v14 c1_i32_15
  let v28 : BitVec 32 := Scalar.addi c0_i32_16 v27
  v28.toNat
def k0_dev2 (d0 : Dev nD) : Nat :=
  let c0_i32_19 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_18 : BitVec 32 := 1#32
  let v29 : BitVec 32 := Scalar.muli v25 c1_i32_18
  let v30 : BitVec 32 := Scalar.addi c0_i32_19 v29
  v30.toNat
def k0_dev3 (d0 : Dev nD) : Nat :=
  let c0_i32_30 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_29 : BitVec 32 := 1#32
  let v43 : BitVec 32 := Scalar.muli v25 c1_i32_29
  let v44 : BitVec 32 := Scalar.addi c0_i32_30 v43
  v44.toNat
def k0_dev4 (d0 : Dev nD) : Nat :=
  let c0_i32_37 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_36 : BitVec 32 := 1#32
  let v51 : BitVec 32 := Scalar.muli v14 c1_i32_36
  let v52 : BitVec 32 := Scalar.addi c0_i32_37 v51
  v52.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_43 : BitVec 32 := 1#32
  let v59 : BitVec 32 := Scalar.muli v25 c1_i32_43
  let v60 : BitVec 32 := Scalar.addi c0_i32_44 v59
  v60.toNat
def k0_dev6 (d0 : Dev nD) : Nat :=
  let c0_i32_51 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_50 : BitVec 32 := 1#32
  let v67 : BitVec 32 := Scalar.muli v14 c1_i32_50
  let v68 : BitVec 32 := Scalar.addi c0_i32_51 v67
  v68.toNat
def k0_off1 (d0 : Dev nD) (c0_i32_56 : BitVec 32) : Fin 3 → Nat :=
  let c0_67 : Index := 0#32
  let c0_68 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v75 : BitVec 32 := Scalar.subi c0_i32_56 v2
  let c4_i32_57 : BitVec 32 := 4#32
  let c0_i32_58 : BitVec 32 := 0#32
  let v76 : BitVec 1 := Scalar.cmpi .eq c4_i32_57 c0_i32_58
  let c1_i32_59 : BitVec 32 := 1#32
  let v77 : BitVec 32 := Scalar.select v76 c1_i32_59 c4_i32_57
  let v78 : BitVec 32 := Scalar.remsi v75 v77
  let c0_i32_61 : BitVec 32 := 0#32
  let v80 : BitVec 1 := Scalar.cmpi .slt v78 c0_i32_61
  let c0_i32_62 : BitVec 32 := 0#32
  let v81 : BitVec 1 := Scalar.cmpi .slt v77 c0_i32_62
  let v82 : BitVec 1 := Scalar.xori v80 v81
  let c0_i32_60 : BitVec 32 := 0#32
  let v79 : BitVec 1 := Scalar.cmpi .ne v78 c0_i32_60
  let v83 : BitVec 1 := Scalar.andi v82 v79
  let v84 : BitVec 32 := Scalar.addi v78 v77
  let v85 : BitVec 32 := Scalar.select v83 v84 v78
  let c512_i32_66 : BitVec 32 := 512#32
  let v89 : BitVec 32 := Scalar.muli v85 c512_i32_66
  let v90 : Index := Scalar.indexCast v89
  ![0, 0, v90.toNat]
def k0_dev7 (d0 : Dev nD) : Nat :=
  let c0_i32_338 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_337 : BitVec 32 := 1#32
  let v552 : BitVec 32 := Scalar.muli v25 c1_i32_337
  let v553 : BitVec 32 := Scalar.addi c0_i32_338 v552
  v553.toNat
def k0_dev8 (d0 : Dev nD) : Nat :=
  let c0_i32_688 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_687 : BitVec 32 := 1#32
  let v1113 : BitVec 32 := Scalar.muli v14 c1_i32_687
  let v1114 : BitVec 32 := Scalar.addi c0_i32_688 v1113
  v1114.toNat
abbrev stage0_0 : Fin 1 → Memref sig .tc .vmem S1024x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x512x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x512x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x512x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S2x2048x768 : Shape := ⟨3, ![2, 2048, 768]⟩
abbrev S768x2048 : Shape := ⟨2, ![768, 2048]⟩
abbrev S2x512x32x64 : Shape := ⟨4, ![2, 512, 32, 64]⟩
abbrev S2048x768 : Shape := ⟨2, ![2048, 768]⟩
abbrev S2x2048x2048 : Shape := ⟨3, ![2, 2048, 2048]⟩
abbrev S2x2048x32x64 : Shape := ⟨4, ![2, 2048, 32, 64]⟩
abbrev S2048 : Shape := ⟨1, ![2048]⟩
abbrev S_ : Shape := ⟨0, ![]⟩
abbrev S2048x1 : Shape := ⟨2, ![2048, 1]⟩
abbrev S512 : Shape := ⟨1, ![512]⟩
abbrev S1x512 : Shape := ⟨2, ![1, 512]⟩
abbrev S2048x512 : Shape := ⟨2, ![2048, 512]⟩
abbrev S2x32x2048x512 : Shape := ⟨4, ![2, 32, 2048, 512]⟩
abbrev S1x1x2048x512 : Shape := ⟨4, ![1, 1, 2048, 512]⟩
abbrev S2x32x2048 : Shape := ⟨3, ![2, 32, 2048]⟩
abbrev S2x32x2048x1 : Shape := ⟨4, ![2, 32, 2048, 1]⟩
abbrev S1x1x2048x1 : Shape := ⟨4, ![1, 1, 2048, 1]⟩
abbrev S2x32x64x2048 : Shape := ⟨4, ![2, 32, 64, 2048]⟩

abbrev nBuf : Space → Nat
  | .hbm => 123
  | .vmem => 0
  | .smem => 0
  | _ => 0

abbrev bufTy : (tb : Table) → Fin (tcTables nBuf tb) → BufTy
  | .hbm, ⟨0, _⟩ => ⟨S2x2048x768, .f32⟩
  | .hbm, ⟨1, _⟩ => ⟨S768x2048, .f32⟩
  | .hbm, ⟨2, _⟩ => ⟨S2x512x32x64, .f32⟩
  | .hbm, ⟨3, _⟩ => ⟨S2x512x32x64, .f32⟩
  | .hbm, ⟨4, _⟩ => ⟨S2048x768, .f32⟩
  | .hbm, ⟨5, _⟩ => ⟨S2x2048x2048, .f32⟩
  | .hbm, ⟨6, _⟩ => ⟨S2x2048x32x64, .f32⟩
  | .hbm, ⟨7, _⟩ => ⟨S2048, .i32⟩
  | .hbm, ⟨8, _⟩ => ⟨S_, .i32⟩
  | .hbm, ⟨9, _⟩ => ⟨S_, .i32⟩
  | .hbm, ⟨10, _⟩ => ⟨S2048, .i32⟩
  | .hbm, ⟨11, _⟩ => ⟨S2048, .i32⟩
  | .hbm, ⟨12, _⟩ => ⟨S2048, .i32⟩
  | .hbm, ⟨13, _⟩ => ⟨S_, .i32⟩
  | .hbm, ⟨14, _⟩ => ⟨S2048, .i32⟩
  | .hbm, ⟨15, _⟩ => ⟨S2048, .i1⟩
  | .hbm, ⟨16, _⟩ => ⟨S2048, .i32⟩
  | .hbm, ⟨17, _⟩ => ⟨S2048, .i32⟩
  | .hbm, ⟨18, _⟩ => ⟨S_, .i32⟩
  | .hbm, ⟨19, _⟩ => ⟨S2048, .i32⟩
  | .hbm, ⟨20, _⟩ => ⟨S2048, .i1⟩
  | .hbm, ⟨21, _⟩ => ⟨S2048, .i1⟩
  | .hbm, ⟨22, _⟩ => ⟨S_, .i32⟩
  | .hbm, ⟨23, _⟩ => ⟨S2048, .i32⟩
  | .hbm, ⟨24, _⟩ => ⟨S2048, .i32⟩
  | .hbm, ⟨25, _⟩ => ⟨S2048, .i32⟩
  | .hbm, ⟨26, _⟩ => ⟨S2048x1, .i32⟩
  | .hbm, ⟨27, _⟩ => ⟨S512, .i32⟩
  | .hbm, ⟨28, _⟩ => ⟨S_, .i32⟩
  | .hbm, ⟨29, _⟩ => ⟨S_, .i32⟩
  | .hbm, ⟨30, _⟩ => ⟨S512, .i32⟩
  | .hbm, ⟨31, _⟩ => ⟨S512, .i32⟩
  | .hbm, ⟨32, _⟩ => ⟨S512, .i32⟩
  | .hbm, ⟨33, _⟩ => ⟨S_, .i32⟩
  | .hbm, ⟨34, _⟩ => ⟨S512, .i32⟩
  | .hbm, ⟨35, _⟩ => ⟨S512, .i1⟩
  | .hbm, ⟨36, _⟩ => ⟨S512, .i32⟩
  | .hbm, ⟨37, _⟩ => ⟨S512, .i32⟩
  | .hbm, ⟨38, _⟩ => ⟨S_, .i32⟩
  | .hbm, ⟨39, _⟩ => ⟨S512, .i32⟩
  | .hbm, ⟨40, _⟩ => ⟨S512, .i1⟩
  | .hbm, ⟨41, _⟩ => ⟨S512, .i1⟩
  | .hbm, ⟨42, _⟩ => ⟨S_, .i32⟩
  | .hbm, ⟨43, _⟩ => ⟨S512, .i32⟩
  | .hbm, ⟨44, _⟩ => ⟨S512, .i32⟩
  | .hbm, ⟨45, _⟩ => ⟨S512, .i32⟩
  | .hbm, ⟨46, _⟩ => ⟨S1x512, .i32⟩
  | .hbm, ⟨47, _⟩ => ⟨S2048x512, .i32⟩
  | .hbm, ⟨48, _⟩ => ⟨S2048x512, .i32⟩
  | .hbm, ⟨49, _⟩ => ⟨S2048x512, .i1⟩
  | .hbm, ⟨50, _⟩ => ⟨S_, .i32⟩
  | .hbm, ⟨51, _⟩ => ⟨S1x512, .i32⟩
  | .hbm, ⟨52, _⟩ => ⟨S1x512, .i1⟩
  | .hbm, ⟨53, _⟩ => ⟨S2048x512, .i1⟩
  | .hbm, ⟨54, _⟩ => ⟨S2048x512, .i1⟩
  | .hbm, ⟨55, _⟩ => ⟨S2048x512, .i32⟩
  | .hbm, ⟨56, _⟩ => ⟨S2048x512, .i32⟩
  | .hbm, ⟨57, _⟩ => ⟨S2048x512, .i32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S_, .i1⟩
  | .hbm, ⟨62, _⟩ => ⟨S_, .i32⟩
  | .hbm, ⟨63, _⟩ => ⟨S_, .i32⟩
  | .hbm, ⟨64, _⟩ => ⟨S2048x512, .i32⟩
  | .hbm, ⟨65, _⟩ => ⟨S2048x512, .i32⟩
  | .hbm, ⟨66, _⟩ => ⟨S_, .i32⟩
  | .hbm, ⟨67, _⟩ => ⟨S2048x512, .i32⟩
  | .hbm, ⟨68, _⟩ => ⟨S2048x512, .i1⟩
  | .hbm, ⟨69, _⟩ => ⟨S_, .i32⟩
  | .hbm, ⟨70, _⟩ => ⟨S2048x512, .i32⟩
  | .hbm, ⟨71, _⟩ => ⟨S2048x512, .i1⟩
  | .hbm, ⟨72, _⟩ => ⟨S_, .i32⟩
  | .hbm, ⟨73, _⟩ => ⟨S_, .i1⟩
  | .hbm, ⟨74, _⟩ => ⟨S2048x512, .i1⟩
  | .hbm, ⟨75, _⟩ => ⟨S2048x512, .i1⟩
  | .hbm, ⟨76, _⟩ => ⟨S2048x512, .i1⟩
  | .hbm, ⟨77, _⟩ => ⟨S2048x512, .i32⟩
  | .hbm, ⟨78, _⟩ => ⟨S2048x512, .i32⟩
  | .hbm, ⟨79, _⟩ => ⟨S2048x512, .i32⟩
  | .hbm, ⟨80, _⟩ => ⟨S_, .i32⟩
  | .hbm, ⟨81, _⟩ => ⟨S2048x512, .i32⟩
  | .hbm, ⟨82, _⟩ => ⟨S2048x512, .i1⟩
  | .hbm, ⟨83, _⟩ => ⟨S2048x512, .i1⟩
  | .hbm, ⟨84, _⟩ => ⟨S2x32x2048x512, .f32⟩
  | .hbm, ⟨85, _⟩ => ⟨S_, .f32⟩
  | .hbm, ⟨86, _⟩ => ⟨S2x32x2048x512, .f32⟩
  | .hbm, ⟨87, _⟩ => ⟨S2x32x2048x512, .f32⟩
  | .hbm, ⟨88, _⟩ => ⟨S1x1x2048x512, .i1⟩
  | .hbm, ⟨89, _⟩ => ⟨S_, .f32⟩
  | .hbm, ⟨90, _⟩ => ⟨S_, .f32⟩
  | .hbm, ⟨91, _⟩ => ⟨S2x32x2048x512, .i1⟩
  | .hbm, ⟨92, _⟩ => ⟨S2x32x2048x512, .f32⟩
  | .hbm, ⟨93, _⟩ => ⟨S2x32x2048x512, .f32⟩
  | .hbm, ⟨94, _⟩ => ⟨S_, .f32⟩
  | .hbm, ⟨95, _⟩ => ⟨S2x32x2048, .f32⟩
  | .hbm, ⟨96, _⟩ => ⟨S2x32x2048x1, .f32⟩
  | .hbm, ⟨97, _⟩ => ⟨S2x32x2048x512, .f32⟩
  | .hbm, ⟨98, _⟩ => ⟨S2x32x2048x512, .f32⟩
  | .hbm, ⟨99, _⟩ => ⟨S2x32x2048x512, .f32⟩
  | .hbm, ⟨100, _⟩ => ⟨S_, .i1⟩
  | .hbm, ⟨101, _⟩ => ⟨S2048, .i1⟩
  | .hbm, ⟨102, _⟩ => ⟨S1x1x2048x1, .i1⟩
  | .hbm, ⟨103, _⟩ => ⟨S_, .f32⟩
  | .hbm, ⟨104, _⟩ => ⟨S2x32x2048, .f32⟩
  | .hbm, ⟨105, _⟩ => ⟨S2x32x2048x1, .f32⟩
  | .hbm, ⟨106, _⟩ => ⟨S_, .f32⟩
  | .hbm, ⟨107, _⟩ => ⟨S_, .f32⟩
  | .hbm, ⟨108, _⟩ => ⟨S2x32x2048x1, .i1⟩
  | .hbm, ⟨109, _⟩ => ⟨S2x32x2048x1, .f32⟩
  | .hbm, ⟨110, _⟩ => ⟨S2x32x2048x1, .f32⟩
  | .hbm, ⟨111, _⟩ => ⟨S2x32x2048x512, .f32⟩
  | .hbm, ⟨112, _⟩ => ⟨S2x32x2048x512, .f32⟩
  | .hbm, ⟨113, _⟩ => ⟨S1x1x2048x1, .i1⟩
  | .hbm, ⟨114, _⟩ => ⟨S_, .f32⟩
  | .hbm, ⟨115, _⟩ => ⟨S_, .f32⟩
  | .hbm, ⟨116, _⟩ => ⟨S2x32x2048x512, .i1⟩
  | .hbm, ⟨117, _⟩ => ⟨S2x32x2048x512, .f32⟩
  | .hbm, ⟨118, _⟩ => ⟨S2x32x2048x512, .f32⟩
  | .hbm, ⟨119, _⟩ => ⟨S2x32x64x2048, .f32⟩
  | .hbm, ⟨120, _⟩ => ⟨S2x2048x32x64, .f32⟩
  | .hbm, ⟨121, _⟩ => ⟨S2x2048x2048, .f32⟩
  | .hbm, ⟨122, _⟩ => ⟨S2x2048x768, .f32⟩
  | _, _ => ⟨S2x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_c_2 : Ref sig .tc := ⟨.hbm, 58, rfl⟩
abbrev main_call2_v0 : Ref sig .tc := ⟨.hbm, 59, rfl⟩
abbrev main_call2_c : Ref sig .tc := ⟨.hbm, 60, rfl⟩
abbrev main_call2_v1 : Ref sig .tc := ⟨.hbm, 61, rfl⟩
abbrev main_call2_c_0 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_c_1 : Ref sig .tc := ⟨.hbm, 66, rfl⟩
abbrev main_call2_v5 : Ref sig .tc := ⟨.hbm, 67, rfl⟩
abbrev main_call2_v6 : Ref sig .tc := ⟨.hbm, 68, rfl⟩
abbrev main_call2_c_2 : Ref sig .tc := ⟨.hbm, 69, rfl⟩
abbrev main_call2_v7 : Ref sig .tc := ⟨.hbm, 70, rfl⟩
abbrev main_call2_v8 : Ref sig .tc := ⟨.hbm, 71, rfl⟩
abbrev main_call2_c_3 : Ref sig .tc := ⟨.hbm, 72, rfl⟩
abbrev main_call2_v9 : Ref sig .tc := ⟨.hbm, 73, rfl⟩
abbrev main_call2_v10 : Ref sig .tc := ⟨.hbm, 74, rfl⟩
abbrev main_call2_v11 : Ref sig .tc := ⟨.hbm, 75, rfl⟩
abbrev main_call2_v12 : Ref sig .tc := ⟨.hbm, 76, rfl⟩
abbrev main_call2_v13 : Ref sig .tc := ⟨.hbm, 77, rfl⟩
abbrev main_call2_v14 : Ref sig .tc := ⟨.hbm, 78, rfl⟩
abbrev main_v18 : Ref sig .tc := ⟨.hbm, 79, rfl⟩
abbrev main_c_3 : Ref sig .tc := ⟨.hbm, 80, rfl⟩
abbrev main_v19 : Ref sig .tc := ⟨.hbm, 81, rfl⟩
abbrev main_v20 : Ref sig .tc := ⟨.hbm, 82, rfl⟩
abbrev main_v21 : Ref sig .tc := ⟨.hbm, 83, rfl⟩
abbrev main_v22 : Ref sig .tc := ⟨.hbm, 84, rfl⟩
abbrev main_cst : Ref sig .tc := ⟨.hbm, 85, rfl⟩
abbrev main_v23 : Ref sig .tc := ⟨.hbm, 86, rfl⟩
abbrev main_v24 : Ref sig .tc := ⟨.hbm, 87, rfl⟩
abbrev main_v25 : Ref sig .tc := ⟨.hbm, 88, rfl⟩
abbrev main_cst_4 : Ref sig .tc := ⟨.hbm, 89, rfl⟩
abbrev main_call3_v0 : Ref sig .tc := ⟨.hbm, 90, rfl⟩
abbrev main_call3_v1 : Ref sig .tc := ⟨.hbm, 91, rfl⟩
abbrev main_call3_v2 : Ref sig .tc := ⟨.hbm, 92, rfl⟩
abbrev main_v26 : Ref sig .tc := ⟨.hbm, 93, rfl⟩
abbrev main_cst_5 : Ref sig .tc := ⟨.hbm, 94, rfl⟩
abbrev main_v27 : Ref sig .tc := ⟨.hbm, 95, rfl⟩
abbrev main_v28 : Ref sig .tc := ⟨.hbm, 96, rfl⟩
abbrev main_v29 : Ref sig .tc := ⟨.hbm, 97, rfl⟩
abbrev main_v30 : Ref sig .tc := ⟨.hbm, 98, rfl⟩
abbrev main_v31 : Ref sig .tc := ⟨.hbm, 99, rfl⟩
abbrev main_c_6 : Ref sig .tc := ⟨.hbm, 100, rfl⟩
abbrev main_v32 : Ref sig .tc := ⟨.hbm, 101, rfl⟩
abbrev main_v33 : Ref sig .tc := ⟨.hbm, 102, rfl⟩
abbrev main_cst_7 : Ref sig .tc := ⟨.hbm, 103, rfl⟩
abbrev main_v34 : Ref sig .tc := ⟨.hbm, 104, rfl⟩
abbrev main_v35 : Ref sig .tc := ⟨.hbm, 105, rfl⟩
abbrev main_cst_8 : Ref sig .tc := ⟨.hbm, 106, rfl⟩
abbrev main_call4_v0 : Ref sig .tc := ⟨.hbm, 107, rfl⟩
abbrev main_call4_v1 : Ref sig .tc := ⟨.hbm, 108, rfl⟩
abbrev main_call4_v2 : Ref sig .tc := ⟨.hbm, 109, rfl⟩
abbrev main_v36 : Ref sig .tc := ⟨.hbm, 110, rfl⟩
abbrev main_v37 : Ref sig .tc := ⟨.hbm, 111, rfl⟩
abbrev main_v38 : Ref sig .tc := ⟨.hbm, 112, rfl⟩
abbrev main_v39 : Ref sig .tc := ⟨.hbm, 113, rfl⟩
abbrev main_cst_9 : Ref sig .tc := ⟨.hbm, 114, rfl⟩
abbrev main_call5_v0 : Ref sig .tc := ⟨.hbm, 115, rfl⟩
abbrev main_call5_v1 : Ref sig .tc := ⟨.hbm, 116, rfl⟩
abbrev main_call5_v2 : Ref sig .tc := ⟨.hbm, 117, rfl⟩
abbrev main_v40 : Ref sig .tc := ⟨.hbm, 118, rfl⟩
abbrev main_v41 : Ref sig .tc := ⟨.hbm, 119, rfl⟩
abbrev main_v42 : Ref sig .tc := ⟨.hbm, 120, rfl⟩
abbrev main_v43 : Ref sig .tc := ⟨.hbm, 121, rfl⟩
abbrev main_v44 : Ref sig .tc := ⟨.hbm, 122, rfl⟩

abbrev nD : Nat := 1
abbrev τ : Topo := Topo.v7x

variable {F : FTy → Type} [FloatOps F]
-- ==== Proof.Proto.lean ====
/-
The ring protocol of the kernel, as a schedule of the rounds library: four devices, each with one barrier cell, six
departure cells and six arrival cells. A device tells both neighbours that it has entered the kernel, and hands each of
them the landing blocks that neighbour's copies write. Copies 0, 1 and 4 go to the next device, copies 2, 3 and 5 to the
previous one. Every payload names its contents: slot `s` of device `c` holds the block of device `c + s`.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.RegionTalk
public import Idealize.ShloMosaic.Lib.Tactic
public import Idealize.ShloMosaic.Lib.ValueIdxCore

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

/-- The rounds library's algebra at duties named by booleans. -/
abbrev UB : Type := URounds (GSem nD τ sig) Bool
/-- The pipeline library's copy of the rounds algebra beside the protocol's. -/
abbrev UU : Type := UR sig nD τ × UB

local notation "𝕄" => MT nD τ sig Unit (Elt F) ℕ UU ℕ

/-- The pipeline library's component. -/
abbrev EP : Emb (UR sig nD τ) (MT nD τ sig Unit (Elt F) ℕ UU ℕ) := embL
/-- The protocol's component. -/
abbrev ER : Emb UB (MT nD τ sig Unit (Elt F) ℕ UU ℕ) := embR

/-! ## The ring -/

set_option backward.proofsInPublic true in
/-- The device `k` places further round the ring. -/
def rot (c : Dev nD) (k : ℕ) : Dev nD := ⟨(c.val + k) % 4, Nat.mod_lt _ (by decide)⟩
/-- The next device. -/
abbrev nxt (c : Dev nD) : Dev nD := rot c 1
/-- The previous device. -/
abbrev prv (c : Dev nD) : Dev nD := rot c 3

/-- Two turns of the ring add up. -/
theorem rot_rot (c : Dev nD) (j k : ℕ) : rot (rot c j) k = rot c (j + k) := by
  apply Fin.ext; simp only [rot]; omega
/-- Four steps round the ring lead back. -/
theorem rot_four (c : Dev nD) (k : ℕ) : rot c (4 + k) = rot c k := by apply Fin.ext; simp only [rot]; omega
/-- No step stays. -/
theorem rot_zero (c : Dev nD) : rot c 0 = c := by
  apply Fin.ext; simp only [rot]; have := c.isLt; simp only [nD] at this; omega
/-- The previous of the next is the device. -/
theorem prv_nxt (c : Dev nD) : prv (nxt c) = c := by exact (rot_rot c _ _).trans ((rot_four c 0).trans (rot_zero c))
/-- The next of the previous is the device. -/
theorem nxt_prv (c : Dev nD) : nxt (prv c) = c := by exact (rot_rot c _ _).trans ((rot_four c 0).trans (rot_zero c))
/-- One step round the ring, as a permutation of the devices. -/
def ring : Dev nD ≃ Dev nD := ⟨nxt, prv, prv_nxt, nxt_prv⟩

/-- The device the copy `i` of device `c` writes. -/
def tgt (i : Fin 6) (c : Dev nD) : Dev nD := match i with
  | 0 => nxt c | 1 => nxt c | 2 => prv c | 3 => prv c | 4 => nxt c | 5 => prv c
/-- The device whose copy `i` writes device `c`. -/
def org (i : Fin 6) (c : Dev nD) : Dev nD := match i with
  | 0 => prv c | 1 => prv c | 2 => nxt c | 3 => nxt c | 4 => prv c | 5 => nxt c
/-- The origin of what `c` sends to its target is `c`. -/
theorem org_tgt (i : Fin 6) (c : Dev nD) : org i (tgt i c) = c := by
  fin_cases i <;> first | exact prv_nxt c | exact nxt_prv c
/-- The target of `c`'s origin is `c`. -/
theorem tgt_org (i : Fin 6) (c : Dev nD) : tgt i (org i c) = c := by
  fin_cases i <;> first | exact prv_nxt c | exact nxt_prv c
/-- Copy `i`'s step round the ring, as a permutation of the devices. -/
def hop (i : Fin 6) : Dev nD ≃ Dev nD := ⟨tgt i, org i, org_tgt i, tgt_org i⟩

/-- The printed device number 1 is a neighbour's. -/
theorem dev1_eq (c : Dev nD) : (⟨k0_dev1 c, k0_dev1_lt c⟩ : Dev nD) = prv c := by revert c; decide
/-- The printed device number 2 is a neighbour's. -/
theorem dev2_eq (c : Dev nD) : (⟨k0_dev2 c, k0_dev2_lt c⟩ : Dev nD) = nxt c := by revert c; decide
/-- The printed device number 3 is a neighbour's. -/
theorem dev3_eq (c : Dev nD) : (⟨k0_dev3 c, k0_dev3_lt c⟩ : Dev nD) = nxt c := by revert c; decide
/-- The printed device number 4 is a neighbour's. -/
theorem dev4_eq (c : Dev nD) : (⟨k0_dev4 c, k0_dev4_lt c⟩ : Dev nD) = prv c := by revert c; decide
/-- The printed device number 5 is a neighbour's. -/
theorem dev5_eq (c : Dev nD) : (⟨k0_dev5 c, k0_dev5_lt c⟩ : Dev nD) = nxt c := by revert c; decide
/-- The printed device number 6 is a neighbour's. -/
theorem dev6_eq (c : Dev nD) : (⟨k0_dev6 c, k0_dev6_lt c⟩ : Dev nD) = prv c := by revert c; decide
/-- The printed device number 7 is a neighbour's. -/
theorem dev7_eq (c : Dev nD) : (⟨k0_dev7 c, k0_dev7_lt c⟩ : Dev nD) = nxt c := by revert c; decide
/-- The printed device number 8 is a neighbour's. -/
theorem dev8_eq (c : Dev nD) : (⟨k0_dev8 c, k0_dev8_lt c⟩ : Dev nD) = prv c := by revert c; decide

/-! ## The blocks, the semaphores, the cells -/

abbrev wqM : Memref sig .tc .vmem S768x2048 .bf16 := Memref.whole cc0_scratch0
abbrev woM : Memref sig .tc .vmem S2048x768 .bf16 := Memref.whole cc0_scratch1
abbrev kM : Memref sig .tc .vmem S2x512x2048 .bf16 := Memref.whole cc0_scratch2
abbrev vM : Memref sig .tc .vmem S2x512x2048 .bf16 := Memref.whole cc0_scratch3

/-- The four column blocks of the projection's slot buffer. -/
abbrev wq0 : Memref sig .tc .vmem S768x512 .bf16 := wqM.slice (Rect.unit (s := S768x2048) ![0, 0] S768x512.size inb_S768x2048_S768x512_0_0) (fun _ => rfl)
abbrev wq1 : Memref sig .tc .vmem S768x512 .bf16 := wqM.slice (Rect.unit (s := S768x2048) ![0, 512] S768x512.size inb_S768x2048_S768x512_0_512) (fun _ => rfl)
abbrev wq2 : Memref sig .tc .vmem S768x512 .bf16 := wqM.slice (Rect.unit (s := S768x2048) ![0, 1024] S768x512.size inb_S768x2048_S768x512_0_1024) (fun _ => rfl)
abbrev wq3 : Memref sig .tc .vmem S768x512 .bf16 := wqM.slice (Rect.unit (s := S768x2048) ![0, 1536] S768x512.size inb_S768x2048_S768x512_0_1536) (fun _ => rfl)
/-- The four row blocks of the output weight's slot buffer. -/
abbrev wo0 : Memref sig .tc .vmem S512x768 .bf16 := woM.slice (Rect.unit (s := S2048x768) ![0, 0] S512x768.size inb_S2048x768_S512x768_0_0) (fun _ => rfl)
abbrev wo1 : Memref sig .tc .vmem S512x768 .bf16 := woM.slice (Rect.unit (s := S2048x768) ![512, 0] S512x768.size inb_S2048x768_S512x768_512_0) (fun _ => rfl)
abbrev wo2 : Memref sig .tc .vmem S512x768 .bf16 := woM.slice (Rect.unit (s := S2048x768) ![1024, 0] S512x768.size inb_S2048x768_S512x768_1024_0) (fun _ => rfl)
abbrev wo3 : Memref sig .tc .vmem S512x768 .bf16 := woM.slice (Rect.unit (s := S2048x768) ![1536, 0] S512x768.size inb_S2048x768_S512x768_1536_0) (fun _ => rfl)

/-- The barrier semaphore, the departure semaphores and the arrival semaphores. -/
abbrev barS : Sem sig := barrier0
abbrev sS (i : Fin 6) : DmaSem sig := ⟨6 + i.val, by have := i.isLt; show 6 + i.val < 18; omega⟩
abbrev vS (i : Fin 6) : DmaSem sig := ⟨12 + i.val, by have := i.isLt; show 12 + i.val < 18; omega⟩

/-- Departure cell 0, as the program takes it from the array. -/
theorem slice_s0 : (@SemArray.squeeze (DmaSem sig) S1 (cc0_scratch4.slice (Rect.unit (s := S6) ![0] S1.size inb_S6_S1_0)) S_ squeezes_S1_S_).sem = sS 0 := rfl
/-- Departure cell 1, as the program takes it from the array. -/
theorem slice_s1 : (@SemArray.squeeze (DmaSem sig) S1 (cc0_scratch4.slice (Rect.unit (s := S6) ![1] S1.size inb_S6_S1_1)) S_ squeezes_S1_S_).sem = sS 1 := rfl
/-- Departure cell 2, as the program takes it from the array. -/
theorem slice_s2 : (@SemArray.squeeze (DmaSem sig) S1 (cc0_scratch4.slice (Rect.unit (s := S6) ![2] S1.size inb_S6_S1_2)) S_ squeezes_S1_S_).sem = sS 2 := rfl
/-- Departure cell 3, as the program takes it from the array. -/
theorem slice_s3 : (@SemArray.squeeze (DmaSem sig) S1 (cc0_scratch4.slice (Rect.unit (s := S6) ![3] S1.size inb_S6_S1_3)) S_ squeezes_S1_S_).sem = sS 3 := rfl
/-- Departure cell 4, as the program takes it from the array. -/
theorem slice_s4 : (@SemArray.squeeze (DmaSem sig) S1 (cc0_scratch4.slice (Rect.unit (s := S6) ![4] S1.size inb_S6_S1_4)) S_ squeezes_S1_S_).sem = sS 4 := rfl
/-- Departure cell 5, as the program takes it from the array. -/
theorem slice_s5 : (@SemArray.squeeze (DmaSem sig) S1 (cc0_scratch4.slice (Rect.unit (s := S6) ![5] S1.size inb_S6_S1_5)) S_ squeezes_S1_S_).sem = sS 5 := rfl
/-- Arrival cell 0, as the program takes it from the array. -/
theorem slice_v0 : (@SemArray.squeeze (DmaSem sig) S1 (cc0_scratch5.slice (Rect.unit (s := S6) ![0] S1.size inb_S6_S1_0)) S_ squeezes_S1_S_).sem = vS 0 := rfl
/-- Arrival cell 1, as the program takes it from the array. -/
theorem slice_v1 : (@SemArray.squeeze (DmaSem sig) S1 (cc0_scratch5.slice (Rect.unit (s := S6) ![1] S1.size inb_S6_S1_1)) S_ squeezes_S1_S_).sem = vS 1 := rfl
/-- Arrival cell 2, as the program takes it from the array. -/
theorem slice_v2 : (@SemArray.squeeze (DmaSem sig) S1 (cc0_scratch5.slice (Rect.unit (s := S6) ![2] S1.size inb_S6_S1_2)) S_ squeezes_S1_S_).sem = vS 2 := rfl
/-- Arrival cell 3, as the program takes it from the array. -/
theorem slice_v3 : (@SemArray.squeeze (DmaSem sig) S1 (cc0_scratch5.slice (Rect.unit (s := S6) ![3] S1.size inb_S6_S1_3)) S_ squeezes_S1_S_).sem = vS 3 := rfl
/-- Arrival cell 4, as the program takes it from the array. -/
theorem slice_v4 : (@SemArray.squeeze (DmaSem sig) S1 (cc0_scratch5.slice (Rect.unit (s := S6) ![4] S1.size inb_S6_S1_4)) S_ squeezes_S1_S_).sem = vS 4 := rfl
/-- Arrival cell 5, as the program takes it from the array. -/
theorem slice_v5 : (@SemArray.squeeze (DmaSem sig) S1 (cc0_scratch5.slice (Rect.unit (s := S6) ![5] S1.size inb_S6_S1_5)) S_ squeezes_S1_S_).sem = vS 5 := rfl

abbrev barCell (c : Dev nD) : GSem nD τ sig := ((c : Thread nD τ), .reg barS)
abbrev sCell (i : Fin 6) (c : Dev nD) : GSem nD τ sig := ((c : Thread nD τ), .dma (sS i))
abbrev vCell (i : Fin 6) (c : Dev nD) : GSem nD τ sig := ((c : Thread nD τ), .dma (vS i))

/-- The kernel's twelve own (scoped) semaphores. -/
abbrev osem : Fin 12 → SemLoc sig := fun k => .dma ⟨6 + k.val, by have := k.isLt; show 6 + k.val < 18; omega⟩

/-- What one transfer counts. -/
abbrev N : ℕ := wq0.view.dmaCredit
/-- A copy's credit is positive. -/
theorem N_pos : 0 < N := View.dmaCredit_pos _ (by decide)
/-- The credit of a copy of query-weight slot 0. -/
theorem N_wq0 : wq0.view.dmaCredit = N := rfl
/-- The credit of a copy of query-weight slot 1. -/
theorem N_wq1 : wq1.view.dmaCredit = N := rfl
/-- The credit of a copy of query-weight slot 2. -/
theorem N_wq2 : wq2.view.dmaCredit = N := rfl
/-- The credit of a copy of query-weight slot 3. -/
theorem N_wq3 : wq3.view.dmaCredit = N := rfl
/-- The credit of a copy of output-weight slot 0. -/
theorem N_wo0 : wo0.view.dmaCredit = N := rfl
/-- The credit of a copy of output-weight slot 1. -/
theorem N_wo1 : wo1.view.dmaCredit = N := rfl
/-- The credit of a copy of output-weight slot 2. -/
theorem N_wo2 : wo2.view.dmaCredit = N := rfl
/-- The credit of a copy of output-weight slot 3. -/
theorem N_wo3 : wo3.view.dmaCredit = N := rfl

/-! ## Contents -/

/-- Each device's block of the projection and of the output weight, in the kernel's format. -/
structure Blocks (F : FTy → Type) where
  wq : Dev nD → Vec F S768x512 .bf16
  wo : Dev nD → Vec F S512x768 .bf16

variable (D : Blocks F)

/-- The projection's slot buffer once every copy has landed. -/
def wqC (c : Dev nD) : Vec F S768x2048 .bf16 := fun i =>
  D.wq (rot c ((i 1).val / 512)) (ix2 (i 0) ⟨(i 1).val % 512, Nat.mod_lt _ (by decide)⟩)
/-- The output weight's slot buffer once every copy has landed. -/
def woC (c : Dev nD) : Vec F S2048x768 .bf16 := fun i =>
  D.wo (rot c ((i 0).val / 512)) (ix2 ⟨(i 0).val % 512, Nat.mod_lt _ (by decide)⟩ (i 1))

/-- Block `k` of device `c`'s projection slots, at the final contents. -/
abbrev wq0P (q : PosShare TreeShare) (c : Dev nD) : sProp 𝕄 := (wq0.view.loc (c : Thread nD τ)) ↦[wq0.view.set]{q} (wqC D c : Buf (Elt F) (wq0.view.loc (c : Thread nD τ)))
abbrev wq1P (q : PosShare TreeShare) (c : Dev nD) : sProp 𝕄 := (wq1.view.loc (c : Thread nD τ)) ↦[wq1.view.set]{q} (wqC D c : Buf (Elt F) (wq1.view.loc (c : Thread nD τ)))
abbrev wq2P (q : PosShare TreeShare) (c : Dev nD) : sProp 𝕄 := (wq2.view.loc (c : Thread nD τ)) ↦[wq2.view.set]{q} (wqC D c : Buf (Elt F) (wq2.view.loc (c : Thread nD τ)))
abbrev wq3P (q : PosShare TreeShare) (c : Dev nD) : sProp 𝕄 := (wq3.view.loc (c : Thread nD τ)) ↦[wq3.view.set]{q} (wqC D c : Buf (Elt F) (wq3.view.loc (c : Thread nD τ)))
/-- Block `k` of device `c`'s output weight slots, at the final contents. -/
abbrev wo0P (q : PosShare TreeShare) (c : Dev nD) : sProp 𝕄 := (wo0.view.loc (c : Thread nD τ)) ↦[wo0.view.set]{q} (woC D c : Buf (Elt F) (wo0.view.loc (c : Thread nD τ)))
abbrev wo1P (q : PosShare TreeShare) (c : Dev nD) : sProp 𝕄 := (wo1.view.loc (c : Thread nD τ)) ↦[wo1.view.set]{q} (woC D c : Buf (Elt F) (wo1.view.loc (c : Thread nD τ)))
abbrev wo2P (q : PosShare TreeShare) (c : Dev nD) : sProp 𝕄 := (wo2.view.loc (c : Thread nD τ)) ↦[wo2.view.set]{q} (woC D c : Buf (Elt F) (wo2.view.loc (c : Thread nD τ)))
abbrev wo3P (q : PosShare TreeShare) (c : Dev nD) : sProp 𝕄 := (wo3.view.loc (c : Thread nD τ)) ↦[wo3.view.set]{q} (woC D c : Buf (Elt F) (wo3.view.loc (c : Thread nD τ)))

/-- A transfer leaves its destination block at `g`, given that the source reads as `g` does there. -/
theorem landed {κ : Kind} {sp sp' : Space} {s : Shape} {e : EltTy} {t : Thread nD τ} {src : View sig κ sp s e} {dst : View sig t.2.kind sp' s e}
    {q : PosShare TreeShare} (fd g : Buf (Elt F) (dst.loc t)) (fs : src.ty.Contents (Elt F))
    (h : ∀ x, src.read (Elt F) fs x = dst.read (Elt F) g x) :
    (dst.loc t ↦[dst.set]{q} dst.write (Elt F) fd (src.read (Elt F) fs) Finset.univ : sProp 𝕄) = dst.loc t ↦[dst.set]{q} g := by
  apply pointsTo_congr
  intro i hi
  obtain ⟨x, -, rfl⟩ := Finset.mem_map.mp hi
  rw [View.write_emb_of_mem _ _ (Finset.mem_univ x), h x, View.read_apply, cast_cast, cast_eq]

/-- The query-weight slots' final contents at an index of slot `k`. -/
theorem wqC_at (c : Dev nD) (i : S768x2048.Idx) (x : S768x512.Idx) (k : ℕ) (h0 : (i 0).val = (x 0).val)
    (h1 : (i 1).val = 512 * k + (x 1).val) : wqC D c i = D.wq (rot c k) x := by
  have hx : (x 1).val < 512 := (x 1).isLt
  have hk : (i 1).val / 512 = k := by omega
  have hm : (i 1).val % 512 = (x 1).val := by omega
  show D.wq (rot c ((i 1).val / 512)) _ = _
  rw [hk]
  congr 1
  funext a
  match a with
  | ⟨0, _⟩ => exact Fin.ext h0
  | ⟨1, _⟩ => exact Fin.ext hm
/-- The output-weight slots' final contents at an index of slot `k`. -/
theorem woC_at (c : Dev nD) (i : S2048x768.Idx) (x : S512x768.Idx) (k : ℕ) (h0 : (i 0).val = 512 * k + (x 0).val)
    (h1 : (i 1).val = (x 1).val) : woC D c i = D.wo (rot c k) x := by
  have hx : (x 0).val < 512 := (x 0).isLt
  have hk : (i 0).val / 512 = k := by omega
  have hm : (i 0).val % 512 = (x 0).val := by omega
  show D.wo (rot c ((i 0).val / 512)) _ = _
  rw [hk]
  congr 1
  funext a
  match a with
  | ⟨0, _⟩ => exact Fin.ext hm
  | ⟨1, _⟩ => exact Fin.ext h1

/-! Block `k` of device `c` reads as the block of device `c + k`. -/
/-- Query-weight slot 0 holds the block of the device 0 further. -/
theorem read_wq0 (c : Dev nD) (x) : wq0.view.read (Elt F) (wqC D c) x = D.wq (rot c 0) x :=
  wqC_at D c (wq0.view.emb x) x 0 (by show 0 + 1 * (x 0).val = (x 0).val; omega) (by show 0 + 1 * (x 1).val = 512 * 0 + (x 1).val; omega)
/-- Query-weight slot 1 holds the block of the device 1 further. -/
theorem read_wq1 (c : Dev nD) (x) : wq1.view.read (Elt F) (wqC D c) x = D.wq (rot c 1) x :=
  wqC_at D c (wq1.view.emb x) x 1 (by show 0 + 1 * (x 0).val = (x 0).val; omega) (by show 512 + 1 * (x 1).val = 512 * 1 + (x 1).val; omega)
/-- Query-weight slot 2 holds the block of the device 2 further. -/
theorem read_wq2 (c : Dev nD) (x) : wq2.view.read (Elt F) (wqC D c) x = D.wq (rot c 2) x :=
  wqC_at D c (wq2.view.emb x) x 2 (by show 0 + 1 * (x 0).val = (x 0).val; omega) (by show 1024 + 1 * (x 1).val = 512 * 2 + (x 1).val; omega)
/-- Query-weight slot 3 holds the block of the device 3 further. -/
theorem read_wq3 (c : Dev nD) (x) : wq3.view.read (Elt F) (wqC D c) x = D.wq (rot c 3) x :=
  wqC_at D c (wq3.view.emb x) x 3 (by show 0 + 1 * (x 0).val = (x 0).val; omega) (by show 1536 + 1 * (x 1).val = 512 * 3 + (x 1).val; omega)
/-- Output-weight slot 0 holds the block of the device 0 further. -/
theorem read_wo0 (c : Dev nD) (x) : wo0.view.read (Elt F) (woC D c) x = D.wo (rot c 0) x :=
  woC_at D c (wo0.view.emb x) x 0 (by show 0 + 1 * (x 0).val = 512 * 0 + (x 0).val; omega) (by show 0 + 1 * (x 1).val = (x 1).val; omega)
/-- Output-weight slot 1 holds the block of the device 1 further. -/
theorem read_wo1 (c : Dev nD) (x) : wo1.view.read (Elt F) (woC D c) x = D.wo (rot c 1) x :=
  woC_at D c (wo1.view.emb x) x 1 (by show 512 + 1 * (x 0).val = 512 * 1 + (x 0).val; omega) (by show 0 + 1 * (x 1).val = (x 1).val; omega)
/-- Output-weight slot 2 holds the block of the device 2 further. -/
theorem read_wo2 (c : Dev nD) (x) : wo2.view.read (Elt F) (woC D c) x = D.wo (rot c 2) x :=
  woC_at D c (wo2.view.emb x) x 2 (by show 1024 + 1 * (x 0).val = 512 * 2 + (x 0).val; omega) (by show 0 + 1 * (x 1).val = (x 1).val; omega)
/-- Output-weight slot 3 holds the block of the device 3 further. -/
theorem read_wo3 (c : Dev nD) (x) : wo3.view.read (Elt F) (woC D c) x = D.wo (rot c 3) x :=
  woC_at D c (wo3.view.emb x) x 3 (by show 1536 + 1 * (x 0).val = 512 * 3 + (x 0).val; omega) (by show 0 + 1 * (x 1).val = (x 1).val; omega)

/-! ## The schedule -/

/-- The share a first copy reads with, the share a second copy reads with, and the share the device keeps for its own
    reads. -/
abbrev qA : PosShare TreeShare := fullShare.left
abbrev qB : PosShare TreeShare := fullShare.right.left
abbrev qC : PosShare TreeShare := fullShare.right.right

/-- What the DMA cell numbered `q` hands over: a departure returns the share of the source, an arrival the block it
    wrote. -/
def dmaPay : ℕ → Dev nD → sProp 𝕄
  | 6, c => wq0P D qA c
  | 7, c => wo0P D qA c
  | 8, c => wq0P D qB c
  | 9, c => wo0P D qB c
  | 10, c => wq3P D fullShare.left c
  | 11, c => wo1P D fullShare.left c
  | 12, c => wq3P D fullShare c
  | 13, c => wo3P D fullShare c
  | 14, c => wq1P D fullShare c
  | 15, c => wo1P D fullShare c
  | 16, c => wq2P D fullShare c
  | 17, c => wo2P D fullShare c
  | _, _ => iprop(emp)

/-- The next device's entry: its blocks that copies 0, 1 and 4 of device `c` write. -/
def barPayN (c : Dev nD) : sProp 𝕄 :=
  iprop((∃ f : Buf (Elt F) (wq3.view.loc (nxt c : Thread nD τ)), (wq3.view.loc (nxt c : Thread nD τ)) ↦[wq3.view.set]{fullShare} f)
    ∗ (∃ f : Buf (Elt F) (wo3.view.loc (nxt c : Thread nD τ)), (wo3.view.loc (nxt c : Thread nD τ)) ↦[wo3.view.set]{fullShare} f)
    ∗ (∃ f : Buf (Elt F) (wq2.view.loc (nxt c : Thread nD τ)), (wq2.view.loc (nxt c : Thread nD τ)) ↦[wq2.view.set]{fullShare} f)
    ∗ reached ER (vCell 0 (nxt c)) 0 ∗ reached ER (vCell 1 (nxt c)) 0 ∗ reached ER (vCell 4 (nxt c)) 0)
/-- The previous device's entry: its blocks that copies 2, 3 and 5 of device `c` write. -/
def barPayP (c : Dev nD) : sProp 𝕄 :=
  iprop((∃ f : Buf (Elt F) (wq1.view.loc (prv c : Thread nD τ)), (wq1.view.loc (prv c : Thread nD τ)) ↦[wq1.view.set]{fullShare} f)
    ∗ (∃ f : Buf (Elt F) (wo1.view.loc (prv c : Thread nD τ)), (wo1.view.loc (prv c : Thread nD τ)) ↦[wo1.view.set]{fullShare} f)
    ∗ (∃ f : Buf (Elt F) (wo2.view.loc (prv c : Thread nD τ)), (wo2.view.loc (prv c : Thread nD τ)) ↦[wo2.view.set]{fullShare} f)
    ∗ reached ER (vCell 2 (prv c)) 0 ∗ reached ER (vCell 3 (prv c)) 0 ∗ reached ER (vCell 5 (prv c)) 0)

/-- The duties of a cell's one round: two on a barrier cell, one on a copy's cell. -/
def dutyOf : SemLoc sig → Finset Bool
  | .reg _ => {true, false}
  | .dma q => if 6 ≤ q.val then {true} else ∅
/-- Units one duty raises. -/
def amountOf : SemLoc sig → ℕ
  | .reg _ => 1
  | .dma _ => N
def payOf (c : Dev nD) (d : Bool) : SemLoc sig → sProp 𝕄
  | .reg _ => if d then barPayN c else barPayP c
  | .dma q => dmaPay D q.val c

def Rd : Rounds.Schedule (GSem nD τ sig) Bool 𝕄 where
  duties g r := if r = 0 ∧ g.1.2 = .tc then dutyOf g.2 else ∅
  unitless _ := False
  amount g _ _ := amountOf g.2
  payload g _ d := payOf D g.1.1 d g.2
  amount_pos g _ _ _ := by
    cases g.2 with
    | reg s => exact Nat.one_pos
    | dma q => exact N_pos

instance dmaPay_storable (n : ℕ) (c : Dev nD) : BI.Storable (upEmb : UEmb _ 𝕄) (dmaPay D n c) := by
  unfold dmaPay
  split <;> infer_instance
set_option synthInstance.maxHeartbeats 400000 in
instance barPayN_storable (c : Dev nD) : BI.Storable (upEmb : UEmb _ 𝕄) (barPayN (F := F) c) := by
  unfold barPayN; infer_instance
set_option synthInstance.maxHeartbeats 400000 in
instance barPayP_storable (c : Dev nD) : BI.Storable (upEmb : UEmb _ 𝕄) (barPayP (F := F) c) := by
  unfold barPayP; infer_instance
instance Rd_payload_storable (g : GSem nD τ sig) (r : ℕ) (d : Bool) :
    BI.Storable (upEmb : UEmb _ 𝕄) ((Rd D).payload g r d) := by
  show BI.Storable upEmb (payOf D g.1.1 d g.2)
  unfold payOf
  split
  · split <;> infer_instance
  · infer_instance

section Sched

variable (c : Dev nD) (i : Fin 6)

/-- A tensor core's cell has its duties in round zero. -/
theorem duties_tc (sm : SemLoc sig) : (Rd D).duties ((c : Thread nD τ), sm) 0 = dutyOf sm := by
  dsimp only [Rd]; exact if_pos ⟨rfl, rfl⟩
/-- The barrier cell's two duties. -/
theorem duties_bar : (Rd D).duties (barCell c) 0 = {true, false} := duties_tc D c _
/-- A departure cell's one duty. -/
theorem duties_s : (Rd D).duties (sCell i c) 0 = {true} := by
  rw [duties_tc]; exact if_pos (by show 6 ≤ 6 + i.val; omega)
/-- An arrival cell's one duty. -/
theorem duties_v : (Rd D).duties (vCell i c) 0 = {true} := by
  rw [duties_tc]; exact if_pos (by show 6 ≤ 12 + i.val; omega)
/-- There are no duties after round zero. -/
theorem duties_later (g : GSem nD τ sig) : ∀ r, 1 ≤ r → (Rd D).duties g r = ∅ := fun r hr => if_neg fun h => by omega

/-- Each neighbour's signal is one unit. -/
theorem amount_bar (d : Bool) : (Rd D).amount (barCell c) 0 d = 1 := rfl
/-- Each copy pays its credit. -/
theorem amount_dma (q : DmaSem sig) (d : Bool) : (Rd D).amount ((c : Thread nD τ), .dma q) 0 d = N := rfl

/-- The barrier expects two units. -/
theorem expect_bar : (Rd D).expect (barCell c) 0 = 2 := by
  unfold Schedule.expect Schedule.amountOf; rw [duties_bar]; rfl
/-- A departure cell expects one copy's credit. -/
theorem expect_s : (Rd D).expect (sCell i c) 0 = N := by
  unfold Schedule.expect Schedule.amountOf; rw [duties_s, Finset.sum_singleton]; rfl
/-- An arrival cell expects one copy's credit. -/
theorem expect_v : (Rd D).expect (vCell i c) 0 = N := by
  unfold Schedule.expect Schedule.amountOf; rw [duties_v, Finset.sum_singleton]; rfl

/-- What the barrier's wait hands over. -/
theorem rest_bar : bigSep ((Rd D).duties (barCell c) 0 \ ∅) (fun u => (Rd D).payload (barCell c) 0 u) = iprop(barPayN c ∗ barPayP c) := by
  rw [Finset.sdiff_empty, duties_bar, bigSep_eq_bigSepL_of_eq [true, false] (by decide) (by decide)]
  rfl
/-- What a departure's wait hands over. -/
theorem rest_s : bigSep ((Rd D).duties (sCell i c) 0 \ ∅) (fun u => (Rd D).payload (sCell i c) 0 u) = dmaPay D (6 + i.val) c := by
  rw [Finset.sdiff_empty, duties_s, bigSep_singleton]; rfl
/-- What an arrival's wait hands over. -/
theorem rest_v : bigSep ((Rd D).duties (vCell i c) 0 \ ∅) (fun u => (Rd D).payload (vCell i c) 0 u) = dmaPay D (12 + i.val) c := by
  rw [Finset.sdiff_empty, duties_v, bigSep_singleton]; rfl

end Sched

/-! ## What each core owes at launch; the levels -/

/-- The second-step copies' credits, which a device owes until it has received the first step's blocks. -/
def O45 (c : Dev nD) : CellTallies nD τ sig Unit := tallyAt (vCell 4 (nxt c)) () N + tallyAt (vCell 5 (prv c)) () N
/-- All six copies' credits. -/
def Ocp (c : Dev nD) : CellTallies nD τ sig Unit :=
  (((O45 c + tallyAt (vCell 3 (prv c)) () N) + tallyAt (vCell 1 (nxt c)) () N) + tallyAt (vCell 2 (prv c)) () N) + tallyAt (vCell 0 (nxt c)) () N
/-- With the two barrier units. -/
def O₀ (c : Dev nD) : CellTallies nD τ sig Unit := (Ocp c + tallyAt (barCell (nxt c)) () 1) + tallyAt (barCell (prv c)) () 1

def L (g : GSem nD τ sig) : Finset Unit := if g.1.2 = .tc then {()} else ∅
/-- Barrier cells at 1, first arrivals at 2, second arrivals at 3, the rest at 0. -/
def lvOf : SemLoc sig → ℕ
  | .reg _ => 1
  | .dma q => if 16 ≤ q.val then 3 else if 12 ≤ q.val then 2 else 0
def lv (g : GSem nD τ sig) (_ : Unit) : ℕ := lvOf g.2

/-- Only tensor cores' cells have levels. -/
theorem L_of_ne (g : GSem nD τ sig) (h : g.1.2 ≠ .tc) : L g = ∅ := if_neg h
/-- A tensor core's cell has one level. -/
theorem L_tc (c : Dev nD) (sm : SemLoc sig) : L ((c : Thread nD τ), sm) = {()} := if_pos rfl

/-- A tally owed to one cell is owed there and nowhere else. -/
theorem tally_pos {g g' : GSem nD τ sig} {u : Unit} {n : ℕ} (h : 0 < tallyAt g () n g' u) : g' = g := by
  rw [tallyAt_apply] at h
  by_contra hne
  rw [if_neg (fun hh => hne hh.1)] at h
  exact absurd h (Nat.lt_irrefl 0)
/-- The last two debts are to the arrival cells of copies 4 and 5. -/
theorem O45_pos {c : Dev nD} {g : GSem nD τ sig} {u : Unit} (h : 0 < O45 c g u) : g = vCell 4 (nxt c) ∨ g = vCell 5 (prv c) := by
  rcases Nat.eq_zero_or_pos (tallyAt (vCell 4 (nxt c)) () N g u) with h0 | h0
  · refine .inr (tally_pos (u := u) (n := N) ?_)
    have : O45 c g u = tallyAt (vCell 4 (nxt c)) () N g u + tallyAt (vCell 5 (prv c)) () N g u := rfl
    omega
  · exact .inl (tally_pos h0)
/-- The copies' debts are to arrival cells. -/
theorem Ocp_pos {c : Dev nD} {g : GSem nD τ sig} {u : Unit} (h : 0 < Ocp c g u) : ∃ (i : Fin 6), g = vCell i (tgt i c) := by
  have : Ocp c g u = (((O45 c g u + tallyAt (vCell 3 (prv c)) () N g u) + tallyAt (vCell 1 (nxt c)) () N g u)
    + tallyAt (vCell 2 (prv c)) () N g u) + tallyAt (vCell 0 (nxt c)) () N g u := rfl
  rcases Nat.eq_zero_or_pos (tallyAt (vCell 0 (nxt c)) () N g u) with h0 | h0
  · rcases Nat.eq_zero_or_pos (tallyAt (vCell 1 (nxt c)) () N g u) with h1 | h1
    · rcases Nat.eq_zero_or_pos (tallyAt (vCell 2 (prv c)) () N g u) with h2 | h2
      · rcases Nat.eq_zero_or_pos (tallyAt (vCell 3 (prv c)) () N g u) with h3 | h3
        · rcases O45_pos (c := c) (g := g) (u := u) (by omega) with h4 | h5
          · exact ⟨4, h4⟩
          · exact ⟨5, h5⟩
        · exact ⟨3, tally_pos h3⟩
      · exact ⟨2, tally_pos h2⟩
    · exact ⟨1, tally_pos h1⟩
  · exact ⟨0, tally_pos h0⟩

/-- A wait on a cell below everything owed is allowed. -/
theorem mayWait_of (c : Dev nD) (sm : SemLoc sig) (k : ℕ) (hk : lvOf sm = k) (O : CellTallies nD τ sig Unit)
    (hO : ∀ g u, 0 < O g u → g.1.2 = .tc ∧ k < lvOf g.2) :
    (levAts L lv : sProp 𝕄) ⊢ MayWait (c : Thread nD τ) sm () O :=
  MayOwe.of_cut (L := L) (lev := lv) k (fun p hp => by rw [Finset.mem_singleton.mp hp, L_tc]; exact Finset.mem_singleton_self _)
    (fun g u hg => by rw [show L g = {()} from if_pos (hO g u hg).1]; exact Finset.mem_singleton_self _)
    (fun p hp => by rw [Finset.mem_singleton.mp hp]; exact le_of_eq hk)
    (fun g u hg => (hO g u hg).2)

/-- An arrival cell lies at level two or above. -/
theorem lv_v (i : Fin 6) : 2 ≤ lvOf (.dma (vS i)) := by revert i; decide
/-- Copy 4's arrival lies at level three. -/
theorem lv_4 : lvOf (.dma (vS 4)) = 3 := rfl
/-- Copy 5's arrival lies at level three. -/
theorem lv_5 : lvOf (.dma (vS 5)) = 3 := rfl
/-- The barrier may be waited for while all six copies' credits are owed. -/
theorem mayWait_bar (c : Dev nD) : (levAts L lv : sProp 𝕄) ⊢ MayWait (c : Thread nD τ) (.reg barS) () (Ocp c) :=
  mayWait_of c _ 1 rfl _ fun g u h => by
    obtain ⟨i, rfl⟩ := Ocp_pos h
    exact ⟨rfl, lt_of_lt_of_le (by decide) (lv_v i)⟩
/-- A first-step arrival may be waited for while both second-step credits are owed. -/
theorem mayWait_v (c : Dev nD) (i : Fin 6) (hi : i.val < 4) : (levAts L lv : sProp 𝕄) ⊢ MayWait (c : Thread nD τ) (.dma (vS i)) () (O45 c) :=
  mayWait_of c _ 2 (by unfold lvOf; show (if 16 ≤ 12 + i.val then 3 else if 12 ≤ 12 + i.val then 2 else 0) = 2; rw [if_neg (by omega), if_pos (by omega)]) _ fun g u h => by
    rcases O45_pos h with rfl | rfl
    · exact ⟨rfl, lv_4 ▸ (by decide)⟩
    · exact ⟨rfl, lv_5 ▸ (by decide)⟩
/-- The same once the first second-step copy has left. -/
theorem mayWait_v5 (c : Dev nD) (i : Fin 6) (hi : i.val < 4) :
    (levAts L lv : sProp 𝕄) ⊢ MayWait (c : Thread nD τ) (.dma (vS i)) () (tallyAt (vCell 5 (prv c)) () N) :=
  mayWait_of c _ 2 (by unfold lvOf; show (if 16 ≤ 12 + i.val then 3 else if 12 ≤ 12 + i.val then 2 else 0) = 2; rw [if_neg (by omega), if_pos (by omega)]) _ fun g u h => by
    rw [tally_pos h]; exact ⟨rfl, lv_5 ▸ (by decide)⟩

end Cert.Ring

end
-- ==== Proof.Steps.lean ====
/-
One rule for each of the kernel's synchronisations, over the ring's schedule: a copy's departure, a copy's return, a
copy's arrival, the closing of a cell; and the slot buffers split into their blocks and joined back.
-/
module

public import proofs.«01_k».proof.Proof.Proto
public import Idealize.ShloMosaic.Lib.Ring

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F] [Named F]

local notation "𝕄" => MT nD τ sig Unit (Elt F) ℕ UU ℕ

variable (D : Blocks F)

abbrev 𝒱₀ : Variants := Variants.none

/-! ## The cells and the records -/

/-- The twelve cells are distinct. -/
theorem osem_inj : Function.Injective osem := by decide
def barEmb : Dev nD ↪ GSem nD τ sig := ⟨fun c => barCell c, fun _ _ h => congrArg (fun g : GSem nD τ sig => g.1.1) h⟩
def scEmb : Dev nD × Fin 12 ↪ GSem nD τ sig :=
  ⟨fun ck => ((ck.1 : Thread nD τ), osem ck.2), fun _ _ h =>
    Prod.ext (congrArg (fun g : GSem nD τ sig => g.1.1) h) (osem_inj (congrArg Prod.snd h))⟩
/-- The barrier cells, and the copies' cells. -/
abbrev barCells : Finset (GSem nD τ sig) := Finset.univ.map barEmb
abbrev scCells : Finset (GSem nD τ sig) := Finset.univ.map scEmb

/-- A barrier cell is among the recorded cells. -/
theorem bar_mem (c : Dev nD) : barCell c ∈ (barCells ∪ scCells : Finset (GSem nD τ sig)) :=
  Finset.mem_union_left _ (Finset.mem_map_of_mem barEmb (Finset.mem_univ c))
/-- The first six cells are the departures. -/
theorem osem_s (i : Fin 6) : osem ⟨i.val, by have := i.isLt; omega⟩ = .dma (sS i) := by revert i; decide
/-- The last six cells are the arrivals. -/
theorem osem_v (i : Fin 6) : osem ⟨6 + i.val, by have := i.isLt; omega⟩ = .dma (vS i) := by revert i; decide
/-- A departure cell is among the recorded cells. -/
theorem s_mem (i : Fin 6) (c : Dev nD) : sCell i c ∈ (barCells ∪ scCells : Finset (GSem nD τ sig)) := by
  have h := Finset.mem_map_of_mem scEmb (Finset.mem_univ (c, (⟨i.val, by have := i.isLt; omega⟩ : Fin 12)))
  have e : scEmb (c, (⟨i.val, by have := i.isLt; omega⟩ : Fin 12)) = sCell i c := Prod.ext rfl (osem_s i)
  rw [e] at h
  exact Finset.mem_union_right _ h
/-- An arrival cell is among the recorded cells. -/
theorem v_mem (i : Fin 6) (c : Dev nD) : vCell i c ∈ (barCells ∪ scCells : Finset (GSem nD τ sig)) := by
  have h := Finset.mem_map_of_mem scEmb (Finset.mem_univ (c, (⟨6 + i.val, by have := i.isLt; omega⟩ : Fin 12)))
  have e : scEmb (c, (⟨6 + i.val, by have := i.isLt; omega⟩ : Fin 12)) = vCell i c := Prod.ext rfl (osem_v i)
  rw [e] at h
  exact Finset.mem_union_right _ h

/-- What every device may consult: the invariants of all cells under one map of names, and that round 0 of every
    barrier cell is reached. -/
def recs (κ : GSem nD τ sig → ℕ) : sProp 𝕄 :=
  iprop((bigSep (barCells ∪ scCells) fun g => cellInv ER (Rd D) (κ g) g) ∗ bigSep barCells fun g => reached ER g 0)
instance recs_persistent (κ : GSem nD τ sig → ℕ) : BI.Persistent (recs D κ) := by unfold recs; infer_instance

/-- The records give each cell's invariant. -/
theorem recs_inv (κ : GSem nD τ sig → ℕ) {g : GSem nD τ sig} (hg : g ∈ (barCells ∪ scCells : Finset (GSem nD τ sig))) :
    (recs D κ : sProp 𝕄) ⊢ cellInv ER (Rd D) (κ g) g := by
  unfold recs; exact sep_elim_left.trans (bigSep_elim hg)
/-- The records say that a barrier cell is in round zero. -/
theorem recs_reached (κ : GSem nD τ sig → ℕ) (c : Dev nD) : (recs D κ : sProp 𝕄) ⊢ reached ER (barCell c) 0 := by
  unfold recs; exact sep_elim_right.trans (bigSep_elim (Finset.mem_map_of_mem barEmb (Finset.mem_univ c)))

/-- What core `c` owes, whatever it has waited for. -/
def ow (c : Dev nD) (O : CellTallies nD τ sig Unit) : sProp 𝕄 := iprop(∃ W, owes (c : Thread nD τ) O W)

/-! ## The steps -/

/-- The signal that tells a neighbour of the device's entry. -/
theorem signal_step (κ : GSem nD τ sig → ℕ) (c e n : Dev nD) (hn : n = e) (d : Bool) {α : Type} {k : PUnit → Prog (TpuEff nD τ sig (Elt F) Λ₀ .tc) α}
    {O : CellTallies nD τ sig Unit} {Q : α → sProp 𝕄} :
    iprop(recs D κ ∗ ow c (O + tallyAt (barCell e) () 1) ∗ dutyTok ER (barCell e) 0 d ∗ (Rd D).payload (barCell e) 0 d)
      ⊢ iprop((ow c O -∗ wp frame (wpE (defs₀ (F := F)) 𝒱₀ c none) Set.univ (k ⟨⟩) Q)
          -∗ wp frame (wpE (defs₀ (F := F)) 𝒱₀ c none) Set.univ (.op (.semSignal (Dev.tc n) barS 1) k) Q) := by
  subst hn
  unfold ow
  iintro ⟨#HR, ⟨%W, HO⟩, Ht, Hp⟩ Hk
  iapply (Rounds.wp_signal 𝒱₀ ER (Rd D) (c : Thread nD τ) none (dst := (n : Thread nD τ)) (sem := barS) (r := 0) (d := d) (κ := κ (barCell n))
      (by rw [duties_bar]; cases d <;> decide) (amount_bar D n d) () O rfl) $$ [HO Ht Hp]
  · isplitr; · iapply (recs_inv D κ (bar_mem n)); iexact HR
    isplitl [HO]; · iexact HO
    isplitl [Ht]; · iexact Ht
    isplitl [Hp]; · iexact Hp
    iapply (recs_reached D κ n); iexact HR
  iintro HO
  iapply Hk
  iexists W; iexact HO

/-- The wait for both neighbours' entries. -/
theorem bar_step (κ : GSem nD τ sig → ℕ) (c : Dev nD) {α : Type} {k : PUnit → Prog (TpuEff nD τ sig (Elt F) Λ₀ .tc) α} {Q : α → sProp 𝕄} :
    iprop(recs D κ ∗ levAts L lv ∗ cred (tallyAt (barCell c) () 2) ∗ ow c (Ocp c) ∗ atPos ER (barCell c) 0 ∅ 0)
      ⊢ iprop(((ow c (Ocp c) ∗ atPos ER (barCell c) 1 ∅ 0 ∗ barPayN c ∗ barPayP c) -∗ wp frame (wpE (defs₀ (F := F)) 𝒱₀ c none) Set.univ (k ⟨⟩) Q)
          -∗ wp frame (wpE (defs₀ (F := F)) 𝒱₀ c none) Set.univ (.op (.semWait barS 2) k) Q) := by
  unfold ow
  iintro ⟨#HR, #Hlev, Hc, ⟨%W, HO⟩, Hat⟩ Hk
  iapply (Rounds.wp_wait_rest_token 𝒱₀ ER (Rd D) (c : Thread nD τ) none (κ := κ (barCell c))
      (wpE_semWait_eq 𝒱₀ (c : Thread nD τ) none Set.univ) (Set.mem_univ _) () (O := Ocp c) (W := W) (R := 0) (m := 0) (T := ∅)
      ((Nat.zero_add 2).trans (expect_bar D c).symm)) $$ [Hc HO Hat]
  · isplitr; · iapply (recs_inv D κ (bar_mem c)); iexact HR
    isplitl [Hc]; · iexact Hc
    isplitl [HO]; · iexact HO
    isplitr; · iapply (mayWait_bar c); iexact Hlev
    iexact Hat
  iintro ⟨HO, Hat, -, Hpay⟩
  ihave Hp := (Entails.of_eq (rest_bar D c)) $$ Hpay
  icases Hp with ⟨HpN, HpP⟩
  iapply Hk
  isplitl [HO]; · iexists _; iexact HO
  isplitl [Hat]; · iexact Hat
  isplitl [HpN] <;> iassumption

/-- Copy `i` leaves: the source's share goes into flight, the block it writes is handed over on its arrival. -/
theorem send_step (κ : GSem nD τ sig → ℕ) (c : Dev nD) (i : Fin 6) (n : Dev nD) (hn : n = tgt i c) {a b : DmaSem sig} (ha : a = sS i) (hb : b = vS i) {s : Shape}
    {src dst : Memref sig .tc .vmem s .bf16} {hsc hsrc hdst hsem} {α : Type} {k : PUnit → Prog (TpuEff nD τ sig (Elt F) Λ₀ .tc) α}
    {q : PosShare TreeShare} {fs : Buf (Elt F) (src.view.loc (c : Thread nD τ))} {O : CellTallies nD τ sig Unit} {Q : α → sProp 𝕄}
    (hN : dst.view.dmaCredit = N) (hs : (src.view.loc (c : Thread nD τ) ↦[src.view.set]{q} fs) ⊢ dmaPay D (6 + i.val) c)
    (hd : ∀ fd, (dst.view.loc (tgt i c : Thread nD τ) ↦[dst.view.set]{fullShare} (dst.view.write (Elt F) fd (src.view.read (Elt F) fs) Finset.univ))
      ⊢ dmaPay D (12 + i.val) (tgt i c)) :
    iprop(recs D κ ∗ (src.view.loc (c : Thread nD τ) ↦[src.view.set]{q} fs)
        ∗ (∃ fd, dst.view.loc (tgt i c : Thread nD τ) ↦[dst.view.set]{fullShare} fd)
        ∗ ow c (O + tallyAt (vCell i (tgt i c)) () N)
        ∗ dutyTok ER (sCell i c) 0 true ∗ reached ER (sCell i c) 0 ∗ dutyTok ER (vCell i (tgt i c)) 0 true ∗ reached ER (vCell i (tgt i c)) 0)
      ⊢ iprop(((cred (tallyAt (sCell i c) () N) ∗ ow c O) -∗ wp frame (wpE (defs₀ (F := F)) 𝒱₀ c none) Set.univ (k ⟨⟩) Q)
          -∗ wp frame (wpE (defs₀ (F := F)) 𝒱₀ c none) Set.univ
            (.op (.enqueueDma src (.remote (Dev.tc n) dst (.dma a) hsc) (.dma b) hsrc hdst hsem) k) Q) := by
  subst hn ha hb
  unfold ow
  iintro ⟨#HR, Hs, ⟨%fd, Hd⟩, ⟨%W, HO⟩, Hts, #Hrs, Htv, #Hrv⟩ Hk
  iapply (Rounds.wp_send_pointsTo 𝒱₀ ER (Rd D) (c : Thread nD τ) none (c' := (tgt i c : Thread nD τ)) (src := src) (dst := dst)
      (sS := .dma (sS i)) (sem := .dma (vS i)) (q := q) (fs := fs) (κ₁ := κ (sCell i c)) (κ₂ := κ (vCell i (tgt i c)))
      (r₁ := 0) (r₂ := 0) (d₁ := true) (d₂ := true) (fd := fd)
      (by rw [duties_s]; exact Finset.mem_singleton_self _) (by rw [duties_v]; exact Finset.mem_singleton_self _)
      () () N hN rfl rfl O rfl (W := W) hs (hd fd)) $$ [Hs Hd HO Hts Htv]
  · isplitr; · iapply (recs_inv D κ (s_mem i c)); iexact HR
    isplitr; · iapply (recs_inv D κ (v_mem i (tgt i c))); iexact HR
    isplitl [Hs]; · iexact Hs
    isplitl [Hd]; · iexact Hd
    isplitl [HO]; · iexact HO
    isplitl [Hts]; · iexact Hts
    isplitr; · iexact Hrs
    isplitl [Htv]; · iexact Htv
    iexact Hrv
  iintro ⟨Hc, HO⟩
  iapply Hk
  isplitl [Hc]; · iexact Hc
  iexists W; iexact HO

/-- Copy `i`'s source has left: its share comes back. -/
theorem return_step (κ : GSem nD τ sig → ℕ) (c : Dev nD) (i : Fin 6) {a : DmaSem sig} (ha : a = sS i) {s : Shape} {src dst : Memref sig .tc .vmem s .bf16} {hsrc hdst}
    {α : Type} {k : PUnit → Prog (TpuEff nD τ sig (Elt F) Λ₀ .tc) α} {Q : α → sProp 𝕄} (hN : dst.view.dmaCredit = N) {P : sProp 𝕄} (hP : dmaPay D (6 + i.val) c = P) :
    iprop(recs D κ ∗ cred (tallyAt (sCell i c) () N) ∗ ow c 0 ∗ atPos ER (sCell i c) 0 ∅ 0)
      ⊢ iprop(((ow c 0 ∗ atPos ER (sCell i c) 1 ∅ 0 ∗ P) -∗ wp frame (wpE (defs₀ (F := F)) 𝒱₀ c none) Set.univ (k ⟨⟩) Q)
          -∗ wp frame (wpE (defs₀ (F := F)) 𝒱₀ c none) Set.univ (.op (.waitDma2 a src dst hsrc hdst) k) Q) := by
  subst ha hP
  unfold ow
  iintro ⟨#HR, Hc, ⟨%W, HO⟩, Hat⟩ Hk
  rw [← hN]
  iapply (Rounds.wp_wait_rest_token 𝒱₀ ER (Rd D) (c : Thread nD τ) none (κ := κ (sCell i c))
      (wpE_waitDma2_eq 𝒱₀ (c : Thread nD τ) none Set.univ) (Set.mem_univ _) () (O := 0) (W := W) (R := 0) (m := 0) (T := ∅)
      ((Nat.zero_add _).trans (hN.trans (expect_s D c i).symm))) $$ [Hc HO Hat]
  · isplitr; · iapply (recs_inv D κ (s_mem i c)); iexact HR
    isplitl [Hc]; · iexact Hc
    isplitl [HO]; · iexact HO
    isplitr; · rw [MayWait_zero]; iempintro
    iexact Hat
  iintro ⟨HO, Hat, -, Hpay⟩
  ihave Hp := (Entails.of_eq (rest_s D c i)) $$ Hpay
  iapply Hk
  isplitl [HO]; · iexists _; iexact HO
  isplitl [Hat] <;> iassumption

/-- Copy `i` of the neighbour has arrived: the block it wrote comes in. -/
theorem arrive_step (κ : GSem nD τ sig → ℕ) (c : Dev nD) (i : Fin 6) {a : DmaSem sig} (ha : a = vS i) {s : Shape} {src dst : Memref sig .tc .vmem s .bf16} {hsrc hdst}
    {α : Type} {k : PUnit → Prog (TpuEff nD τ sig (Elt F) Λ₀ .tc) α} {O : CellTallies nD τ sig Unit} {Q : α → sProp 𝕄} (hN : dst.view.dmaCredit = N)
    (hO : (levAts L lv : sProp 𝕄) ⊢ MayWait (c : Thread nD τ) (.dma (vS i)) () O)
    {P : sProp 𝕄} (hP : dmaPay D (12 + i.val) c = P) :
    iprop(recs D κ ∗ levAts L lv ∗ cred (tallyAt (vCell i c) () N) ∗ ow c O ∗ atPos ER (vCell i c) 0 ∅ 0)
      ⊢ iprop(((ow c O ∗ atPos ER (vCell i c) 1 ∅ 0 ∗ P) -∗ wp frame (wpE (defs₀ (F := F)) 𝒱₀ c none) Set.univ (k ⟨⟩) Q)
          -∗ wp frame (wpE (defs₀ (F := F)) 𝒱₀ c none) Set.univ (.op (.waitDma2 a src dst hsrc hdst) k) Q) := by
  subst ha hP
  unfold ow
  iintro ⟨#HR, #Hlev, Hc, ⟨%W, HO⟩, Hat⟩ Hk
  rw [← hN]
  iapply (Rounds.wp_wait_rest_token 𝒱₀ ER (Rd D) (c : Thread nD τ) none (κ := κ (vCell i c))
      (wpE_waitDma2_eq 𝒱₀ (c : Thread nD τ) none Set.univ) (Set.mem_univ _) () (O := O) (W := W) (R := 0) (m := 0) (T := ∅)
      ((Nat.zero_add _).trans (hN.trans (expect_v D c i).symm))) $$ [Hc HO Hat]
  · isplitr; · iapply (recs_inv D κ (v_mem i c)); iexact HR
    isplitl [Hc]; · iexact Hc
    isplitl [HO]; · iexact HO
    isplitr; · iapply hO; iexact Hlev
    iexact Hat
  iintro ⟨HO, Hat, -, Hpay⟩
  ihave Hp := (Entails.of_eq (rest_v D c i)) $$ Hpay
  iapply Hk
  isplitl [HO]; · iexists _; iexact HO
  isplitl [Hat] <;> iassumption

/-- A cell whose one round is over gives its counter back, at zero. -/
theorem close_cell (κ : GSem nD τ sig → ℕ) {g : GSem nD τ sig} (hg : g ∈ (barCells ∪ scCells : Finset (GSem nD τ sig))) :
    iprop(recs D κ ∗ atPos ER g 1 ∅ 0) ⊢ (|={Set.univ}=> semVal g 0 : sProp 𝕄) :=
  (sep_mono_left (recs_inv D κ hg)).trans (Rounds.cell_close ER (Rd D) (Set.mem_univ (κ g)) id (duties_later D g))

/-! ## What each copy writes is the block its addressee ends with -/

/-- A turn, counted from the next device. -/
theorem rot_nxt (c : Dev nD) (a b : ℕ) (h : a % 4 = (1 + b) % 4) : rot c a = rot (nxt c) b := by
  apply Fin.ext; simp only [rot]; omega
/-- A turn, counted from the previous device. -/
theorem rot_prv (c : Dev nD) (a b : ℕ) (h : a % 4 = (3 + b) % 4) : rot c a = rot (prv c) b := by
  apply Fin.ext; simp only [rot]; omega

/-- Copy 0's source holds what its landing must hold. -/
theorem same0 (c : Dev nD) (x) : wq0.view.read (Elt F) (wqC D c) x = wq3.view.read (Elt F) (wqC D (nxt c)) x := by
  rw [read_wq0, read_wq3, rot_nxt c 0 3 rfl]
/-- Copy 0's landing is the slot with its final contents. -/
theorem lands0 (c : Dev nD) (fd : Buf (Elt F) (wq3.view.loc (nxt c : Thread nD τ))) :
    (wq3.view.loc (nxt c : Thread nD τ) ↦[wq3.view.set]{fullShare} wq3.view.write (Elt F) fd (wq0.view.read (Elt F) (wqC D c)) Finset.univ : sProp 𝕄)
      ⊢ wq3P D fullShare (nxt c) :=
  Entails.of_eq (landed (t := (nxt c : Thread nD τ)) (src := wq0.view) (dst := wq3.view) fd (wqC D (nxt c)) (wqC D c) (same0 D c))
/-- Copy 1's source holds what its landing must hold. -/
theorem same1 (c : Dev nD) (x) : wo0.view.read (Elt F) (woC D c) x = wo3.view.read (Elt F) (woC D (nxt c)) x := by
  rw [read_wo0, read_wo3, rot_nxt c 0 3 rfl]
/-- Copy 1's landing is the slot with its final contents. -/
theorem lands1 (c : Dev nD) (fd : Buf (Elt F) (wo3.view.loc (nxt c : Thread nD τ))) :
    (wo3.view.loc (nxt c : Thread nD τ) ↦[wo3.view.set]{fullShare} wo3.view.write (Elt F) fd (wo0.view.read (Elt F) (woC D c)) Finset.univ : sProp 𝕄)
      ⊢ wo3P D fullShare (nxt c) :=
  Entails.of_eq (landed (t := (nxt c : Thread nD τ)) (src := wo0.view) (dst := wo3.view) fd (woC D (nxt c)) (woC D c) (same1 D c))
/-- Copy 2's source holds what its landing must hold. -/
theorem same2 (c : Dev nD) (x) : wq0.view.read (Elt F) (wqC D c) x = wq1.view.read (Elt F) (wqC D (prv c)) x := by
  rw [read_wq0, read_wq1, rot_prv c 0 1 rfl]
/-- Copy 2's landing is the slot with its final contents. -/
theorem lands2 (c : Dev nD) (fd : Buf (Elt F) (wq1.view.loc (prv c : Thread nD τ))) :
    (wq1.view.loc (prv c : Thread nD τ) ↦[wq1.view.set]{fullShare} wq1.view.write (Elt F) fd (wq0.view.read (Elt F) (wqC D c)) Finset.univ : sProp 𝕄)
      ⊢ wq1P D fullShare (prv c) :=
  Entails.of_eq (landed (t := (prv c : Thread nD τ)) (src := wq0.view) (dst := wq1.view) fd (wqC D (prv c)) (wqC D c) (same2 D c))
/-- Copy 3's source holds what its landing must hold. -/
theorem same3 (c : Dev nD) (x) : wo0.view.read (Elt F) (woC D c) x = wo1.view.read (Elt F) (woC D (prv c)) x := by
  rw [read_wo0, read_wo1, rot_prv c 0 1 rfl]
/-- Copy 3's landing is the slot with its final contents. -/
theorem lands3 (c : Dev nD) (fd : Buf (Elt F) (wo1.view.loc (prv c : Thread nD τ))) :
    (wo1.view.loc (prv c : Thread nD τ) ↦[wo1.view.set]{fullShare} wo1.view.write (Elt F) fd (wo0.view.read (Elt F) (woC D c)) Finset.univ : sProp 𝕄)
      ⊢ wo1P D fullShare (prv c) :=
  Entails.of_eq (landed (t := (prv c : Thread nD τ)) (src := wo0.view) (dst := wo1.view) fd (woC D (prv c)) (woC D c) (same3 D c))
/-- Copy 4's source holds what its landing must hold. -/
theorem same4 (c : Dev nD) (x) : wq3.view.read (Elt F) (wqC D c) x = wq2.view.read (Elt F) (wqC D (nxt c)) x := by
  rw [read_wq3, read_wq2, rot_nxt c 3 2 rfl]
/-- Copy 4's landing is the slot with its final contents. -/
theorem lands4 (c : Dev nD) (fd : Buf (Elt F) (wq2.view.loc (nxt c : Thread nD τ))) :
    (wq2.view.loc (nxt c : Thread nD τ) ↦[wq2.view.set]{fullShare} wq2.view.write (Elt F) fd (wq3.view.read (Elt F) (wqC D c)) Finset.univ : sProp 𝕄)
      ⊢ wq2P D fullShare (nxt c) :=
  Entails.of_eq (landed (t := (nxt c : Thread nD τ)) (src := wq3.view) (dst := wq2.view) fd (wqC D (nxt c)) (wqC D c) (same4 D c))
/-- Copy 5's source holds what its landing must hold. -/
theorem same5 (c : Dev nD) (x) : wo1.view.read (Elt F) (woC D c) x = wo2.view.read (Elt F) (woC D (prv c)) x := by
  rw [read_wo1, read_wo2, rot_prv c 1 2 rfl]
/-- Copy 5's landing is the slot with its final contents. -/
theorem lands5 (c : Dev nD) (fd : Buf (Elt F) (wo2.view.loc (prv c : Thread nD τ))) :
    (wo2.view.loc (prv c : Thread nD τ) ↦[wo2.view.set]{fullShare} wo2.view.write (Elt F) fd (wo1.view.read (Elt F) (woC D c)) Finset.univ : sProp 𝕄)
      ⊢ wo2P D fullShare (prv c) :=
  Entails.of_eq (landed (t := (prv c : Thread nD τ)) (src := wo1.view) (dst := wo2.view) fd (woC D (prv c)) (woC D c) (same5 D c))

/-! ## The slot buffers, split and joined -/

def wqOff (k : Fin 4) : Fin 2 → ℕ := ![0, 512 * k.val]
def woOff (k : Fin 4) : Fin 2 → ℕ := ![512 * k.val, 0]
/-- Each query-weight slot lies within the array. -/
theorem wqOff_inb (k : Fin 4) : ∀ a, wqOff k a + S768x512.size a ≤ S768x2048.size a := by revert k; decide
/-- Each output-weight slot lies within the array. -/
theorem woOff_inb (k : Fin 4) : ∀ a, woOff k a + S512x768.size a ≤ S2048x768.size a := by revert k; decide

/-- The query-weight slots are disjoint. -/
theorem wq_disj (k k' : Fin 4) (h : k ≠ k') :
    Disjoint (Rect.unit (s := S768x2048) (wqOff k) S768x512.size (wqOff_inb k)).set (Rect.unit (s := S768x2048) (wqOff k') S768x512.size (wqOff_inb k')).set :=
  Ring.lead_disjoint (s := S768x2048) (1 : Fin 2) 512 wqOff S768x512.size wqOff_inb (by decide) rfl k k' h
/-- The query-weight slots cover the array. -/
theorem wq_cover : Finset.univ.biUnion (fun k => (Rect.unit (s := S768x2048) (wqOff k) S768x512.size (wqOff_inb k)).set) = Finset.univ :=
  Ring.lead_cover (s := S768x2048) (1 : Fin 2) 512 wqOff S768x512.size wqOff_inb (by decide) (by decide) rfl (by decide) rfl
/-- The output-weight slots are disjoint. -/
theorem wo_disj (k k' : Fin 4) (h : k ≠ k') :
    Disjoint (Rect.unit (s := S2048x768) (woOff k) S512x768.size (woOff_inb k)).set (Rect.unit (s := S2048x768) (woOff k') S512x768.size (woOff_inb k')).set :=
  Ring.lead_disjoint (s := S2048x768) (0 : Fin 2) 512 woOff S512x768.size woOff_inb (by decide) rfl k k' h
/-- The output-weight slots cover the array. -/
theorem wo_cover : Finset.univ.biUnion (fun k => (Rect.unit (s := S2048x768) (woOff k) S512x768.size (woOff_inb k)).set) = Finset.univ :=
  Ring.lead_cover (s := S2048x768) (0 : Fin 2) 512 woOff S512x768.size woOff_inb (by decide) (by decide) rfl (by decide) rfl

/-- The projection's slot buffer held whole is its four blocks held one by one. -/
theorem wq_split (c : Dev nD) (f : Buf (Elt F) ((c : Thread nD τ).loc cc0_scratch0)) :
    (((c : Thread nD τ).loc cc0_scratch0) ↦{fullShare} f : sProp 𝕄)
      = iprop(((wq0.view.loc (c : Thread nD τ)) ↦[wq0.view.set]{fullShare} f) ∗ ((wq1.view.loc (c : Thread nD τ)) ↦[wq1.view.set]{fullShare} f)
        ∗ ((wq2.view.loc (c : Thread nD τ)) ↦[wq2.view.set]{fullShare} f) ∗ ((wq3.view.loc (c : Thread nD τ)) ↦[wq3.view.set]{fullShare} f)) := by
  have e0 : wq0.view.set = (Rect.unit (s := S768x2048) (wqOff 0) S768x512.size (wqOff_inb 0)).set := View.set_slice_whole ..
  have e1 : wq1.view.set = (Rect.unit (s := S768x2048) (wqOff 1) S768x512.size (wqOff_inb 1)).set := View.set_slice_whole ..
  have e2 : wq2.view.set = (Rect.unit (s := S768x2048) (wqOff 2) S768x512.size (wqOff_inb 2)).set := View.set_slice_whole ..
  have e3 : wq3.view.set = (Rect.unit (s := S768x2048) (wqOff 3) S768x512.size (wqOff_inb 3)).set := View.set_slice_whole ..
  rw [e0, e1, e2, e3]
  refine (Ring.pointsTo_blocks (ℓ := (c : Thread nD τ).loc cc0_scratch0)
    (fun k : Fin 4 => (Rect.unit (s := S768x2048) (wqOff k) S768x512.size (wqOff_inb k)).set) wq_disj wq_cover f).trans ?_
  exact bigSep_univ_eq_bigSepL [(0 : Fin 4), 1, 2, 3] (by decide) (by decide) _
/-- The output weight's slot buffer likewise. -/
theorem wo_split (c : Dev nD) (f : Buf (Elt F) ((c : Thread nD τ).loc cc0_scratch1)) :
    (((c : Thread nD τ).loc cc0_scratch1) ↦{fullShare} f : sProp 𝕄)
      = iprop(((wo0.view.loc (c : Thread nD τ)) ↦[wo0.view.set]{fullShare} f) ∗ ((wo1.view.loc (c : Thread nD τ)) ↦[wo1.view.set]{fullShare} f)
        ∗ ((wo2.view.loc (c : Thread nD τ)) ↦[wo2.view.set]{fullShare} f) ∗ ((wo3.view.loc (c : Thread nD τ)) ↦[wo3.view.set]{fullShare} f)) := by
  have e0 : wo0.view.set = (Rect.unit (s := S2048x768) (woOff 0) S512x768.size (woOff_inb 0)).set := View.set_slice_whole ..
  have e1 : wo1.view.set = (Rect.unit (s := S2048x768) (woOff 1) S512x768.size (woOff_inb 1)).set := View.set_slice_whole ..
  have e2 : wo2.view.set = (Rect.unit (s := S2048x768) (woOff 2) S512x768.size (woOff_inb 2)).set := View.set_slice_whole ..
  have e3 : wo3.view.set = (Rect.unit (s := S2048x768) (woOff 3) S512x768.size (woOff_inb 3)).set := View.set_slice_whole ..
  rw [e0, e1, e2, e3]
  refine (Ring.pointsTo_blocks (ℓ := (c : Thread nD τ).loc cc0_scratch1)
    (fun k : Fin 4 => (Rect.unit (s := S2048x768) (woOff k) S512x768.size (woOff_inb k)).set) wo_disj wo_cover f).trans ?_
  exact bigSep_univ_eq_bigSepL [(0 : Fin 4), 1, 2, 3] (by decide) (by decide) _

/-- The entry signal to the previous device hands it the blocks its copies 0, 1 and 4 write here. -/
theorem pay_prv (c : Dev nD) (f3 f3' f2) :
    iprop(((wq3.view.loc (c : Thread nD τ)) ↦[wq3.view.set]{fullShare} f3) ∗ ((wo3.view.loc (c : Thread nD τ)) ↦[wo3.view.set]{fullShare} f3')
      ∗ ((wq2.view.loc (c : Thread nD τ)) ↦[wq2.view.set]{fullShare} f2)
      ∗ reached ER (vCell 0 c) 0 ∗ reached ER (vCell 1 c) 0 ∗ reached ER (vCell 4 c) 0)
      ⊢ ((Rd D).payload (barCell (prv c)) 0 true : sProp 𝕄) := by
  show _ ⊢ barPayN (prv c)
  unfold barPayN
  rw [nxt_prv]
  iintro ⟨A, B, C, R⟩
  isplitl [A]; · iexists _; iexact A
  isplitl [B]; · iexists _; iexact B
  isplitl [C]; · iexists _; iexact C
  iexact R
/-- The entry signal to the next device hands it the blocks its copies 2, 3 and 5 write here. -/
theorem pay_nxt (c : Dev nD) (f1 f1' f2) :
    iprop(((wq1.view.loc (c : Thread nD τ)) ↦[wq1.view.set]{fullShare} f1) ∗ ((wo1.view.loc (c : Thread nD τ)) ↦[wo1.view.set]{fullShare} f1')
      ∗ ((wo2.view.loc (c : Thread nD τ)) ↦[wo2.view.set]{fullShare} f2)
      ∗ reached ER (vCell 2 c) 0 ∗ reached ER (vCell 3 c) 0 ∗ reached ER (vCell 5 c) 0)
      ⊢ ((Rd D).payload (barCell (nxt c)) 0 false : sProp 𝕄) := by
  show _ ⊢ barPayP (nxt c)
  unfold barPayP
  rw [prv_nxt]
  iintro ⟨A, B, C, R⟩
  isplitl [A]; · iexists _; iexact A
  isplitl [B]; · iexists _; iexact B
  isplitl [C]; · iexists _; iexact C
  iexact R

/-- A share in two halves. -/
theorem halves {ℓ : Loc nD τ sig} {S : Finset (Idx ℓ)} {q : PosShare TreeShare} {f : Buf (Elt F) ℓ} :
    (ℓ ↦[S]{q} f : sProp 𝕄) = iprop((ℓ ↦[S]{q.left} f) ∗ (ℓ ↦[S]{q.right} f)) :=
  BI.Entails.antisymm (pointsTo_share (PosShare.mem_left_op_right q)).1 (pointsTo_share (PosShare.mem_left_op_right q)).2

/-! ## What a device brings to the run -/

/-- Copy `i`'s part of it: the positions in its own two cells, the right to pay each of them, and the credit of its
    arrival. -/
def copyRes (i : Fin 6) (c : Dev nD) : sProp 𝕄 :=
  iprop(atPos ER (sCell i c) 0 ∅ 0 ∗ reached ER (sCell i c) 0 ∗ atPos ER (vCell i c) 0 ∅ 0 ∗ reached ER (vCell i c) 0
    ∗ dutyTok ER (sCell i c) 0 true ∗ dutyTok ER (vCell i (tgt i c)) 0 true ∗ cred (tallyAt (vCell i c) () N))
/-- The entry barrier's part. -/
def barRes (c : Dev nD) : sProp 𝕄 :=
  iprop(dutyTok ER (barCell (prv c)) 0 true ∗ dutyTok ER (barCell (nxt c)) 0 false ∗ atPos ER (barCell c) 0 ∅ 0
    ∗ cred (tallyAt (barCell c) () 2))

/-- A product over the six copies, written out. -/
theorem six (Φ : Fin 6 → sProp 𝕄) : bigSep Finset.univ Φ = iprop(Φ 0 ∗ Φ 1 ∗ Φ 2 ∗ Φ 3 ∗ Φ 4 ∗ Φ 5) :=
  bigSep_univ_eq_bigSepL [(0 : Fin 6), 1, 2, 3, 4, 5] (by decide) (by decide) Φ

end Cert.Ring

end
-- ==== Proof.Values.lean ====
/-
The values the run computes: the caches in slots, one shard's share of the attention, and the result as it accumulates.
-/
module

public import proofs.«01_k».proof.Proof.Proto
public import Idealize.ShloMosaic.Lib.VecWindow
public import Idealize.ShloMosaic.Lib.ValueLayout

@[expose] public section

noncomputable section

namespace Cert.Ring

open Cert.KernelIdeal Cert.KernelIdeal.Gen
open Idealize.ShloMosaic
open Idealize.ShloMosaic.TcCoe
open Idealize.ShloMosaic.ValueIdx
open Idealize.ShloMosaic.VecWindow

variable {F : FTy → Type} [FloatOps F] [Named F]

/-! ## The offsets of the slots -/

/-- Where the store of key and value group 0 begins. -/
theorem off0_eq (c : Dev nD) : k0_off1 c 0#32 = ![0, 0, 512 * ((4 - c.val) % 4)] := by revert c; decide
/-- Where the store of key and value group 1 begins. -/
theorem off1_eq (c : Dev nD) : k0_off1 c 1#32 = ![0, 0, 512 * ((5 - c.val) % 4)] := by revert c; decide
/-- Where the store of key and value group 2 begins. -/
theorem off2_eq (c : Dev nD) : k0_off1 c 2#32 = ![0, 0, 512 * ((6 - c.val) % 4)] := by revert c; decide
/-- Where the store of key and value group 3 begins. -/
theorem off3_eq (c : Dev nD) : k0_off1 c 3#32 = ![0, 0, 512 * ((7 - c.val) % 4)] := by revert c; decide
instance closedOff0 (c : Dev nD) : ClosedOff (k0_off1 c 0#32) := ⟨![0, 0, 512 * ((4 - c.val) % 4)], off0_eq c⟩
instance closedOff1 (c : Dev nD) : ClosedOff (k0_off1 c 1#32) := ⟨![0, 0, 512 * ((5 - c.val) % 4)], off1_eq c⟩
instance closedOff2 (c : Dev nD) : ClosedOff (k0_off1 c 2#32) := ⟨![0, 0, 512 * ((6 - c.val) % 4)], off2_eq c⟩
instance closedOff3 (c : Dev nD) : ClosedOff (k0_off1 c 3#32) := ⟨![0, 0, 512 * ((7 - c.val) % 4)], off3_eq c⟩

/-! ## The caches -/

/-- A cache, rounded and put in slots: slot `s` of device `c` holds block `c + s`. -/
def slots (c : Dev nD) (f : Vec F S2x512x2048 .f32) : Vec F S2x512x2048 .bf16 := fun y =>
  FloatOps.truncf .bf16 bitsLt_bf16_f32 (f (ix3 (y 0) (y 1) ⟨512 * (((y 2).val / 512 + c.val) % 4) + (y 2).val % 512, by omega⟩))

/-- A block of a cache, rounded, read at an index. -/
theorem rounded (w : Vec F S2x512x512 .f32) (x : S2x512x512.Idx) : k0_pay11 w x = FloatOps.truncf .bf16 bitsLt_bf16_f32 (w x) := by
  unfold k0_pay11
  rw [shapeCast_self, shapeCast_self]
  rfl

/-- The payload of block `j` at the place of slot `s` is what the slots hold there. -/
theorem slots_hit (c : Dev nD) (f : Vec F S2x512x2048 .f32) (y : S2x512x2048.Idx) (j : ℕ) (inb) (hj : ((y 2).val / 512 + c.val) % 4 = j) :
    k0_pay11 (window f ![0, 0, 512 * j] S2x512x512.size inb) (ix3 (y 0) (y 1) ⟨(y 2).val % 512, Nat.mod_lt _ (by decide)⟩) = slots c f y := by
  rw [rounded]
  refine congrArg (fun i => FloatOps.truncf .bf16 bitsLt_bf16_f32 (f i)) ?_
  funext a
  match a with
  | ⟨0, _⟩ => exact Fin.ext (by show 0 + 1 * (y 0).val = (y 0).val; omega)
  | ⟨1, _⟩ => exact Fin.ext (by show 0 + 1 * (y 1).val = (y 1).val; omega)
  | ⟨2, _⟩ => exact Fin.ext (by
      show 512 * j + 1 * ((y 2).val % 512) = 512 * (((y 2).val / 512 + c.val) % 4) + (y 2).val % 512
      rw [hj, Nat.one_mul])

/-- The four stores of the blocks leave the slots. -/
theorem slots_writes {κ : Kind} {sp : Space} (v : View sig κ sp S2x512x2048 .bf16) (g : v.ty.Contents (Elt F)) (c : Dev nD) (f : Vec F S2x512x2048 .f32)
    (i0 i1 i2 i3) (j0 j1 j2 j3) :
    v.read (Elt F) (v.writes (Elt F) g
      [⟨Rect.unit (k0_off1 c 3#32) S2x512x512.size i3, k0_pay11 (window f ![0, 0, 512 * 3] S2x512x512.size j3)⟩,
       ⟨Rect.unit (k0_off1 c 2#32) S2x512x512.size i2, k0_pay11 (window f ![0, 0, 512 * 2] S2x512x512.size j2)⟩,
       ⟨Rect.unit (k0_off1 c 1#32) S2x512x512.size i1, k0_pay11 (window f ![0, 0, 512 * 1] S2x512x512.size j1)⟩,
       ⟨Rect.unit (k0_off1 c 0#32) S2x512x512.size i0, k0_pay11 (window f ![0, 0, 512 * 0] S2x512x512.size j0)⟩])
      = slots c f := by
  funext y
  have hy : (y 2).val < 2048 := (y 2).isLt
  have hc : c.val < 4 := c.isLt
  let x : S2x512x512.Idx := ix3 (y 0) (y 1) ⟨(y 2).val % 512, Nat.mod_lt _ (by decide)⟩
  have hx (j : ℕ) (hj : (y 2).val = 512 * j + (y 2).val % 512) (a : Fin 3) : (y a).val = (![0, 0, 512 * j] : Fin 3 → ℕ) a + (x a).val := by
    match a with
    | ⟨0, _⟩ => exact (Nat.zero_add _).symm
    | ⟨1, _⟩ => exact (Nat.zero_add _).symm
    | ⟨2, _⟩ => exact hj
  by_cases h3 : ((y 2).val / 512 + c.val) % 4 = 3
  · rw [View.read_writes_cons_unit_of_mem v g i3 _ _ y x (off3_eq c) (hx _ (by omega))]
    exact slots_hit c f y 3 j3 h3
  rw [View.read_writes_cons_unit_of_not_mem v g i3 _ _ y (off3_eq c) 2 (by
    show (y 2).val < 512 * ((7 - c.val) % 4) ∨ 512 * ((7 - c.val) % 4) + 512 ≤ (y 2).val; omega)]
  by_cases h2 : ((y 2).val / 512 + c.val) % 4 = 2
  · rw [View.read_writes_cons_unit_of_mem v g i2 _ _ y x (off2_eq c) (hx _ (by omega))]
    exact slots_hit c f y 2 j2 h2
  rw [View.read_writes_cons_unit_of_not_mem v g i2 _ _ y (off2_eq c) 2 (by
    show (y 2).val < 512 * ((6 - c.val) % 4) ∨ 512 * ((6 - c.val) % 4) + 512 ≤ (y 2).val; omega)]
  by_cases h1 : ((y 2).val / 512 + c.val) % 4 = 1
  · rw [View.read_writes_cons_unit_of_mem v g i1 _ _ y x (off1_eq c) (hx _ (by omega))]
    exact slots_hit c f y 1 j1 h1
  rw [View.read_writes_cons_unit_of_not_mem v g i1 _ _ y (off1_eq c) 2 (by
    show (y 2).val < 512 * ((5 - c.val) % 4) ∨ 512 * ((5 - c.val) % 4) + 512 ≤ (y 2).val; omega)]
  rw [View.read_writes_cons_unit_of_mem v g i0 _ _ y x (off0_eq c) (hx _ (by omega))]
  exact slots_hit c f y 0 j0 (by omega)

/-! ## One shard's share -/

/-- The mask as a number added to the scores: zero where the block is attended, the named constant elsewhere. -/
def negC (c : Dev nD) : FVec F S512x512 .f32 :=
  let w : BitVec 32 := Scalar.muli (Scalar.remsi (Scalar.divsi (Dev.word c) 1#32) 4#32) 8#32
  k0_pay19 (F := F) (k0_pay16 w (iota .tc S512x512 32 [0] iota_S512x512_d0_w32) 64#32 k0_pay14 k0_pay15) k0_pay17
    (k0_pay18 w (iota .tc S512x512 32 [0] iota_S512x512_d0_w32) 64#32 k0_pay14 k0_pay15) 0#32

/-- Each head's queries lie within the projected block. -/
theorem slices_q (b : Fin 2) (h : Fin 8) : S1024x512.Slices ![512 * b.val, 64 * h.val] S512x64 := by revert b h; decide
/-- Each head's columns lie within the key and value slots. -/
theorem inb_kv (b : Fin 2) (s : Fin 4) (h : Fin 8) :
    ∀ a, (![b.val, 0, 512 * s.val + 64 * h.val] : Fin 3 → ℕ) a + S1x512x64.size a ≤ S2x512x2048.size a := by revert b s h; decide

/-- One head of one shard and one batch: its weights over the keys, applied to the values and divided by their sum. -/
def head (neg : FVec F S512x512 .f32) (qg : FVec F S1024x512 .bf16) (K V : Vec F S2x512x2048 .bf16) (b : Fin 2) (s : Fin 4) (h : Fin 8) : FVec F S512x64 .f32 :=
  k0_pay29 neg (extractStridedSlice S512x64 ![512 * b.val, 64 * h.val] qg (slices_q b h))
    (window K ![b.val, 0, 512 * s.val + 64 * h.val] S1x512x64.size (inb_kv b s h)) (window V ![b.val, 0, 512 * s.val + 64 * h.val] S1x512x64.size (inb_kv b s h))

/-- The eight heads side by side. -/
def ctx (neg : FVec F S512x512 .f32) (qg : FVec F S1024x512 .bf16) (K V : Vec F S2x512x2048 .bf16) (b : Fin 2) (s : Fin 4) : FVec F S512x512 .bf16 :=
  truncf .bf16 (concatenate S512x512 1 [⟨S512x64, head neg qg K V b s 0⟩, ⟨S512x64, head neg qg K V b s 1⟩, ⟨S512x64, head neg qg K V b s 2⟩,
    ⟨S512x64, head neg qg K V b s 3⟩, ⟨S512x64, head neg qg K V b s 4⟩, ⟨S512x64, head neg qg K V b s 5⟩, ⟨S512x64, head neg qg K V b s 6⟩,
    ⟨S512x64, head neg qg K V b s 7⟩]
    concatenates_S512x64_S512x64_S512x64_S512x64_S512x64_S512x64_S512x64_S512x64_S512x512_d1) bitsLt_bf16_f32

/-- One shard's share of the output, for one batch. -/
def share (neg : FVec F S512x512 .f32) (qg : FVec F S1024x512 .bf16) (K V : Vec F S2x512x2048 .bf16) (wo : Vec F S512x768 .bf16) (b : Fin 2) (s : Fin 4) :
    FVec F S512x768 .f32 :=
  matmul dot_S512x512_S512x768_S512x768_1_0_0_1_n_n none (ctx neg qg K V b s) wo (constant S512x768 .f32 0x00000000#32)

/-! ## The weights' blocks, as a load of their sizes reads them -/

/-- Query-weight slot 0, loaded. -/
theorem load_wq0 (D : Blocks F) (c : Dev nD) (inb) :
    (Memref.whole cc0_scratch0).view.readAt (Elt F) (Rect.unit (s := S768x2048) ![0, 0] S768x512.size inb).toLoadRect (wqC D c) = D.wq (rot c 0) := funext fun x => read_wq0 D c x
/-- Output-weight slot 0, loaded. -/
theorem load_wo0 (D : Blocks F) (c : Dev nD) (inb) :
    (Memref.whole cc0_scratch1).view.readAt (Elt F) (Rect.unit (s := S2048x768) ![0, 0] S512x768.size inb).toLoadRect (woC D c) = D.wo (rot c 0) := funext fun x => read_wo0 D c x
/-- Query-weight slot 1, loaded. -/
theorem load_wq1 (D : Blocks F) (c : Dev nD) (inb) :
    (Memref.whole cc0_scratch0).view.readAt (Elt F) (Rect.unit (s := S768x2048) ![0, 512] S768x512.size inb).toLoadRect (wqC D c) = D.wq (rot c 1) := funext fun x => read_wq1 D c x
/-- Output-weight slot 1, loaded. -/
theorem load_wo1 (D : Blocks F) (c : Dev nD) (inb) :
    (Memref.whole cc0_scratch1).view.readAt (Elt F) (Rect.unit (s := S2048x768) ![512, 0] S512x768.size inb).toLoadRect (woC D c) = D.wo (rot c 1) := funext fun x => read_wo1 D c x
/-- Query-weight slot 2, loaded. -/
theorem load_wq2 (D : Blocks F) (c : Dev nD) (inb) :
    (Memref.whole cc0_scratch0).view.readAt (Elt F) (Rect.unit (s := S768x2048) ![0, 1024] S768x512.size inb).toLoadRect (wqC D c) = D.wq (rot c 2) := funext fun x => read_wq2 D c x
/-- Output-weight slot 2, loaded. -/
theorem load_wo2 (D : Blocks F) (c : Dev nD) (inb) :
    (Memref.whole cc0_scratch1).view.readAt (Elt F) (Rect.unit (s := S2048x768) ![1024, 0] S512x768.size inb).toLoadRect (woC D c) = D.wo (rot c 2) := funext fun x => read_wo2 D c x
/-- Query-weight slot 3, loaded. -/
theorem load_wq3 (D : Blocks F) (c : Dev nD) (inb) :
    (Memref.whole cc0_scratch0).view.readAt (Elt F) (Rect.unit (s := S768x2048) ![0, 1536] S768x512.size inb).toLoadRect (wqC D c) = D.wq (rot c 3) := funext fun x => read_wq3 D c x
/-- Output-weight slot 3, loaded. -/
theorem load_wo3 (D : Blocks F) (c : Dev nD) (inb) :
    (Memref.whole cc0_scratch1).view.readAt (Elt F) (Rect.unit (s := S2048x768) ![1536, 0] S512x768.size inb).toLoadRect (woC D c) = D.wo (rot c 3) := funext fun x => read_wo3 D c x
/-- The device's own shards, stored in their slots' first block. -/
theorem stored_wq (g : Vec F S768x2048 .bf16) (w : Vec F S768x512 .bf16) (inb) (x) :
    wq0.view.read (Elt F) (((Memref.whole cc0_scratch0).access (Rect.unit (s := S768x2048) ![0, 0] S768x512.size inb)).write (Elt F) g w Finset.univ) x = w x :=
  congrFun (View.read_write_univ (v := (Memref.whole cc0_scratch0).access (Rect.unit (s := S768x2048) ![0, 0] S768x512.size inb)) g w) x
/-- The device's own output weights, stored in slot 0 and read back. -/
theorem stored_wo (g : Vec F S2048x768 .bf16) (w : Vec F S512x768 .bf16) (inb) (x) :
    wo0.view.read (Elt F) (((Memref.whole cc0_scratch1).access (Rect.unit (s := S2048x768) ![0, 0] S512x768.size inb)).write (Elt F) g w Finset.univ) x = w x :=
  congrFun (View.read_write_univ (v := (Memref.whole cc0_scratch1).access (Rect.unit (s := S2048x768) ![0, 0] S512x768.size inb)) g w) x
/-- The host's shards, loaded whole. -/
theorem load_w1 (f : Vec F S768x512 .f32) (inb) :
    (Memref.whole cc0_stg1_0).view.readAt (Elt F) (Rect.unit (s := S768x512) ![0, 0] S768x512.size inb).toLoadRect f = f := View.readAt_full _ _ inb
/-- The output weights, loaded whole. -/
theorem load_w4 (f : Vec F S512x768 .f32) (inb) :
    (Memref.whole cc0_stg4_0).view.readAt (Elt F) (Rect.unit (s := S512x768) ![0, 0] S512x768.size inb).toLoadRect f = f := View.readAt_full _ _ inb
/-- The activations, loaded whole. -/
theorem load_x (f : Vec F S1024x768 .f32) (inb) :
    (Memref.whole cc0_stg0_0).view.readAt (Elt F) (Rect.unit (s := S1024x768) ![0, 0] S1024x768.size inb).toLoadRect f = f := View.readAt_full _ _ inb

/-! ## The result -/

/-- Two batches one above the other. -/
def stack (p0 p1 : FVec F S512x768 .f32) : Vec F S2x512x768 .f32 := fun y => if (y 0).val = 0 then p0 (ix2 (y 1) (y 2)) else p1 (ix2 (y 1) (y 2))
/-- A further shard's share added. -/
def addTo (o p : Vec F S2x512x768 .f32) : Vec F S2x512x768 .f32 := fun y => FloatOps.addf (o y) (p y)

/-- The two batches' stores leave each batch its payload. -/
theorem out_writes {κ : Kind} {sp : Space} (v : View sig κ sp S2x512x768 .f32) (g : v.ty.Contents (Elt F)) (w0 w1 : Vec F S1x512x768 .f32) (i0 i1) (L) :
    v.read (Elt F) (v.writes (Elt F) g (⟨Rect.unit ![1, 0, 0] S1x512x768.size i1, w1⟩ :: ⟨Rect.unit ![0, 0, 0] S1x512x768.size i0, w0⟩ :: L))
      = fun y => if (y 0).val = 0 then w0 (ix3 0 (y 1) (y 2)) else w1 (ix3 0 (y 1) (y 2)) := by
  funext y
  have hy : (y 0).val < 2 := (y 0).isLt
  let x : S1x512x768.Idx := ix3 0 (y 1) (y 2)
  by_cases h : (y 0).val = 0
  · rw [if_pos h, View.read_writes_cons_unit_of_not_mem v g i1 _ _ y rfl 0 (by show (y 0).val < 1 ∨ 1 + 1 ≤ (y 0).val; omega),
      View.read_writes_cons_unit_of_mem v g i0 _ _ y x rfl (fun a => by
        match a with
        | ⟨0, _⟩ => exact h
        | ⟨1, _⟩ => exact (Nat.zero_add _).symm
        | ⟨2, _⟩ => exact (Nat.zero_add _).symm)]
  · rw [if_neg h, View.read_writes_cons_unit_of_mem v g i1 _ _ y x rfl (fun a => by
        match a with
        | ⟨0, _⟩ => show (y 0).val = 1 + 0; omega
        | ⟨1, _⟩ => exact (Nat.zero_add _).symm
        | ⟨2, _⟩ => exact (Nat.zero_add _).symm)]

/-- The first shard's stores. -/
theorem out_first {κ : Kind} {sp : Space} (v : View sig κ sp S2x512x768 .f32) (g : v.ty.Contents (Elt F)) (p0 p1 : FVec F S512x768 .f32) (i0 i1) (L) :
    v.read (Elt F) (v.writes (Elt F) g (⟨Rect.unit ![1, 0, 0] S1x512x768.size i1, k0_pay53 p1⟩ :: ⟨Rect.unit ![0, 0, 0] S1x512x768.size i0, k0_pay53 p0⟩ :: L))
      = stack p0 p1 := by
  rw [out_writes]
  funext y
  unfold k0_pay53 stack
  exact congrArg₂ (fun a b : F .f32 => if (y 0).val = 0 then a else b) (shapeCast_ab_1ab_apply (u := 0) _ _ _ _) (shapeCast_ab_1ab_apply (u := 0) _ _ _ _)

/-- What a later shard stores for one batch: what is there, and its own share. -/
def added (o : Vec F S1x512x768 .f32) (p : FVec F S512x768 .f32) : FVec F S1x512x768 .f32 :=
  shapeCast S1x512x768 (addf (shapeCast S512x768 o shapeCasts_S1x512x768_S512x768) p) shapeCasts_S512x768_S1x512x768

/-- A share added to the result, at an index. -/
theorem added_apply (o : Vec F S1x512x768 .f32) (p : FVec F S512x768 .f32) (i : Fin 512) (j : Fin 768) :
    added o p (ix3 0 i j) = FloatOps.addf (o (ix3 0 i j)) (p (ix2 i j)) := by
  unfold added
  rw [shapeCast_ab_1ab_apply]
  show FloatOps.addf (shapeCast S512x768 o _ (ix2 i j)) _ = _
  rw [shapeCast_1ab_ab_apply]

/-- A later shard's stores, over a result `o`. -/
theorem out_next {κ : Kind} {sp : Space} (v : View sig κ sp S2x512x768 .f32) (g : v.ty.Contents (Elt F)) (o : Vec F S2x512x768 .f32) (p0 p1 : FVec F S512x768 .f32) (i0 i1 j0 j1) (L) :
    v.read (Elt F) (v.writes (Elt F) g (⟨Rect.unit ![1, 0, 0] S1x512x768.size i1, added (window o ![1, 0, 0] S1x512x768.size j1) p1⟩
      :: ⟨Rect.unit ![0, 0, 0] S1x512x768.size i0, added (window o ![0, 0, 0] S1x512x768.size j0) p0⟩ :: L))
      = addTo o (stack p0 p1) := by
  rw [out_writes]
  funext y
  have hy : (y 0).val < 2 := (y 0).isLt
  unfold addTo stack
  dsimp only
  by_cases h : (y 0).val = 0
  · rw [if_pos h, if_pos h]
    refine (added_apply _ _ _ _).trans ?_
    refine congrArg (fun i => FloatOps.addf (o i) _) ?_
    funext a
    match a with
    | ⟨0, _⟩ => exact Fin.ext h.symm
    | ⟨1, _⟩ => exact Fin.ext (by show 0 + 1 * (y 1).val = (y 1).val; omega)
    | ⟨2, _⟩ => exact Fin.ext (by show 0 + 1 * (y 2).val = (y 2).val; omega)
  · rw [if_neg h, if_neg h]
    refine (added_apply _ _ _ _).trans ?_
    refine congrArg (fun i => FloatOps.addf (o i) _) ?_
    funext a
    match a with
    | ⟨0, _⟩ => exact Fin.ext (by show 1 + 1 * 0 = (y 0).val; omega)
    | ⟨1, _⟩ => exact Fin.ext (by show 0 + 1 * (y 1).val = (y 1).val; omega)
    | ⟨2, _⟩ => exact Fin.ext (by show 0 + 1 * (y 2).val = (y 2).val; omega)

/-- Shard `s`'s share on device `c`, both batches. -/
def shard (D : Blocks F) (c : Dev nD) (f0 : Vec F S1024x768 .f32) (f2 f3 : Vec F S2x512x2048 .f32) (s : Fin 4) : Vec F S2x512x768 .f32 :=
  stack (share (negC c) (k0_pay20 (k0_pay13 f0) (D.wq (rot c s.val))) (slots c f2) (slots c f3) (D.wo (rot c s.val)) 0 s)
    (share (negC c) (k0_pay20 (k0_pay13 f0) (D.wq (rot c s.val))) (slots c f2) (slots c f3) (D.wo (rot c s.val)) 1 s)

/-- The result on device `c`, as the shards come in. -/
def outC (D : Blocks F) (c : Dev nD) (f0 : Vec F S1024x768 .f32) (f2 f3 : Vec F S2x512x2048 .f32) : Vec F S2x512x768 .f32 :=
  addTo (addTo (addTo (shard D c f0 f2 f3 0) (shard D c f0 f2 f3 3)) (shard D c f0 f2 f3 1)) (shard D c f0 f2 f3 2)

end Cert.Ring

end
-- ==== Proof.Body.lean ====
/-
The kernel's run on one device: from the entry signals to the last return, over the ring's schedule.
-/
module

public import proofs.«01_k».proof.Proof.Steps
public import proofs.«01_k».proof.Proof.Values

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F] [Named F]

local notation "𝕄" => MT nD τ sig Unit (Elt F) ℕ UU ℕ

variable (D : Blocks F)

/-- The kernel's body on the buffers the pipeline calls it with. -/
abbrev theBody : Prog (TpuEff nD τ sig (Elt F) Λ₀ .tc) PUnit :=
  cc0_body (Memref.whole cc0_stg0_0) (Memref.isWhole_whole _) (Memref.whole cc0_stg1_0) (Memref.isWhole_whole _) (Memref.whole cc0_stg2_0) (Memref.isWhole_whole _)
    (Memref.whole cc0_stg3_0) (Memref.isWhole_whole _) (Memref.whole cc0_stg4_0) (Memref.isWhole_whole _) (Memref.whole cc0_stg5_0) (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) cc0_scratch4 cc0_scratch5

/-- A buffer of device `c` held whole. -/
abbrev bf (b : Ref sig .tc) (c : Dev nD) (f : Buf (Elt F) (View.loc (c : Thread nD τ) (Memref.whole b).view)) : sProp 𝕄 :=
  (View.loc (c : Thread nD τ) (Memref.whole b).view) ↦{fullShare} f

/-- What the run starts from, beside the records and what the core owes. -/
def bodyPre (c : Dev nD) (f0 : Vec F S1024x768 .f32) (f1 : Vec F S768x512 .f32) (f2 f3 : Vec F S2x512x2048 .f32) (f4 : Vec F S512x768 .f32)
    (f5 : Vec F S2x512x768 .f32) (g0 : Vec F S768x2048 .bf16) (g1 : Vec F S2048x768 .bf16) (g2 g3 : Vec F S2x512x2048 .bf16) : sProp 𝕄 :=
  iprop(barRes c ∗ (bigSep Finset.univ fun i : Fin 6 => copyRes i c)
    ∗ bf cc0_stg0_0 c f0 ∗ bf cc0_stg1_0 c f1 ∗ bf cc0_stg2_0 c f2 ∗ bf cc0_stg3_0 c f3 ∗ bf cc0_stg4_0 c f4 ∗ bf cc0_stg5_0 c f5
    ∗ bf cc0_scratch0 c g0 ∗ bf cc0_scratch1 c g1 ∗ bf cc0_scratch2 c g2 ∗ bf cc0_scratch3 c g3)

/-- The first block of the projection's slots, once the device has stored its own shard there. -/
theorem own_wq (c : Dev nD) (g : Buf (Elt F) (wq0.view.loc (c : Thread nD τ)))
    (h : ∀ x, wq0.view.read (Elt F) g x = D.wq c x) :
    ((wq0.view.loc (c : Thread nD τ)) ↦[wq0.view.set]{fullShare} g : sProp 𝕄) = wq0P D fullShare c := by
  apply pointsTo_congr
  intro i hi
  obtain ⟨x, -, rfl⟩ := Finset.mem_map.mp hi
  exact (h x).trans ((read_wq0 D c x).trans (by rw [rot_zero])).symm
/-- The output weight's likewise. -/
theorem own_wo (c : Dev nD) (g : Buf (Elt F) (wo0.view.loc (c : Thread nD τ)))
    (h : ∀ x, wo0.view.read (Elt F) g x = D.wo c x) :
    ((wo0.view.loc (c : Thread nD τ)) ↦[wo0.view.set]{fullShare} g : sProp 𝕄) = wo0P D fullShare c := by
  apply pointsTo_congr
  intro i hi
  obtain ⟨x, -, rfl⟩ := Finset.mem_map.mp hi
  exact (h x).trans ((read_wo0 D c x).trans (by rw [rot_zero])).symm

/-- A buffer whose contents read the same is the same resource. -/
theorem bf_congr {b : Ref sig .tc} {c : Dev nD} {f g : Buf (Elt F) (View.loc (c : Thread nD τ) (Memref.whole b).view)}
    (h : (Memref.whole b).view.read (Elt F) f = g) : (bf b c f : sProp 𝕄) = bf b c g := congrArg (bf b c) h

/-- What the run leaves: every cell closed, nothing owed, and the buffers. -/
def bodyPost (c : Dev nD) (f0 : Vec F S1024x768 .f32) (f1 : Vec F S768x512 .f32) (f2 f3 : Vec F S2x512x2048 .f32) (f4 : Vec F S512x768 .f32) : sProp 𝕄 :=
  iprop(ow c 0 ∗ semVal (barCell c) 0 ∗ (bigSep Finset.univ fun i : Fin 6 => iprop(semVal (sCell i c) 0 ∗ semVal (vCell i c) 0))
    ∗ bf cc0_stg0_0 c f0 ∗ bf cc0_stg1_0 c f1 ∗ bf cc0_stg2_0 c f2 ∗ bf cc0_stg3_0 c f3 ∗ bf cc0_stg4_0 c f4 ∗ bf cc0_stg5_0 c (outC D c f0 f2 f3)
    ∗ bf cc0_scratch0 c (wqC D c) ∗ bf cc0_scratch1 c (woC D c) ∗ bf cc0_scratch2 c (slots c f2) ∗ bf cc0_scratch3 c (slots c f3))

/-- The projection's slots whole again, from the shares the copies and the device read with. -/
theorem join_wq (c : Dev nD) :
    iprop(wq0P D qA c ∗ wq0P D qB c ∗ wq0P D qC c ∗ wq1P D fullShare c ∗ wq2P D fullShare c ∗ wq3P D fullShare.left c ∗ wq3P D fullShare.right c)
      ⊢ (bf cc0_scratch0 c (wqC D c) : sProp 𝕄) := by
  iintro ⟨A, B, C, A1, A2, L, R⟩
  ihave BC := (Entails.of_eq (halves (q := fullShare.right)).symm) $$ [B C]
  · isplitl [B]; · iexact B
    iexact C
  ihave A0 := (Entails.of_eq (halves (q := fullShare)).symm) $$ [A BC]
  · isplitl [A]; · iexact A
    iexact BC
  ihave A3 := (Entails.of_eq (halves (q := fullShare)).symm) $$ [L R]
  · isplitl [L]; · iexact L
    iexact R
  iapply (Entails.of_eq (wq_split c (wqC D c)).symm) $$ [A0 A1 A2 A3]
  isplitl [A0]; · iexact A0
  isplitl [A1]; · iexact A1
  isplitl [A2]; · iexact A2
  iexact A3
/-- The output weight's likewise. -/
theorem join_wo (c : Dev nD) :
    iprop(wo0P D qA c ∗ wo0P D qB c ∗ wo0P D qC c ∗ wo1P D fullShare.left c ∗ wo1P D fullShare.right c ∗ wo2P D fullShare c ∗ wo3P D fullShare c)
      ⊢ (bf cc0_scratch1 c (woC D c) : sProp 𝕄) := by
  iintro ⟨A, B, C, L, R, A2, A3⟩
  ihave BC := (Entails.of_eq (halves (q := fullShare.right)).symm) $$ [B C]
  · isplitl [B]; · iexact B
    iexact C
  ihave A0 := (Entails.of_eq (halves (q := fullShare)).symm) $$ [A BC]
  · isplitl [A]; · iexact A
    iexact BC
  ihave A1 := (Entails.of_eq (halves (q := fullShare)).symm) $$ [L R]
  · isplitl [L]; · iexact L
    iexact R
  iapply (Entails.of_eq (wo_split c (woC D c)).symm) $$ [A0 A1 A2 A3]
  isplitl [A0]; · iexact A0
  isplitl [A1]; · iexact A1
  isplitl [A2]; · iexact A2
  iexact A3

/-- The two cells of a copy closed. -/
theorem close_copy (κ : GSem nD τ sig → ℕ) (c : Dev nD) (i : Fin 6) :
    iprop(recs D κ ∗ atPos ER (sCell i c) 1 ∅ 0 ∗ atPos ER (vCell i c) 1 ∅ 0)
      ⊢ (|={Set.univ}=> iprop(semVal (sCell i c) 0 ∗ semVal (vCell i c) 0) : sProp 𝕄) := by
  iintro ⟨#HR, s, v⟩
  imod (close_cell D κ (s_mem i c)) $$ [s] with s
  · isplitr; · iexact HR
    iexact s
  imod (close_cell D κ (v_mem i c)) $$ [v] with v
  · isplitr; · iexact HR
    iexact v
  imodintro
  isplitl [s]; · iexact s
  iexact v

set_option backward.isDefEq.respectTransparency.types false in
set_option sl_exec.resultNames true in
/-- The body's run on device `c`: from its windows, its slots and what it was dealt, to the result written and every cell back at zero. -/
theorem bodyRun (κ : GSem nD τ sig → ℕ) (c : Dev nD) (f0 : Vec F S1024x768 .f32) (f1 : Vec F S768x512 .f32) (f2 f3 : Vec F S2x512x2048 .f32) (f4 : Vec F S512x768 .f32)
    (f5 : Vec F S2x512x768 .f32) (g0 : Vec F S768x2048 .bf16) (g1 : Vec F S2048x768 .bf16) (g2 g3 : Vec F S2x512x2048 .bf16) (Q : PUnit → sProp 𝕄)
    (hq : D.wq c = k0_pay1 f1) (ho : D.wo c = k0_pay2 f4) :
    iprop(recs D κ ∗ levAts L lv ∗ ow c (O₀ c) ∗ bodyPre c f0 f1 f2 f3 f4 f5 g0 g1 g2 g3 ∗ (bodyPost D c f0 f1 f2 f3 f4 -∗ Q ⟨⟩))
      ⊢ wp frame (wpE (defs₀ (F := F)) 𝒱₀ c none) Set.univ (theBody (F := F)) Q := by
  unfold theBody bodyPre
  rw [six]
  unfold barRes copyRes
  sl_unfold [cc0_body]
  iintro ⟨#HR, #Hlev, HO, ⟨⟨Hb1, Hb2, Hat, Hcb⟩,
    ⟨⟨s0, #rs0, v0, #rv0, ts0, tv0, cv0⟩, ⟨s1, #rs1, v1, #rv1, ts1, tv1, cv1⟩, ⟨s2, #rs2, v2, #rv2, ts2, tv2, cv2⟩,
      ⟨s3, #rs3, v3, #rv3, ts3, tv3, cv3⟩, ⟨s4, #rs4, v4, #rv4, ts4, tv4, cv4⟩, ⟨s5, #rs5, v5, #rv5, ts5, tv5, cv5⟩⟩,
    H0, H1, H2, H3, H4, H5, G0, G1, G2, G3⟩, K⟩
  ihave G0' := (Entails.of_eq (wq_split c g0)) $$ G0
  ihave G1' := (Entails.of_eq (wo_split c g1)) $$ G1
  icases G0' with ⟨A0, A1, A2, A3⟩
  icases G1' with ⟨B0, B1, B2, B3⟩
  have hq0 := load_wq0 D c
  have ho0 := load_wo0 D c
  have hq1 := load_wq1 D c
  have ho1 := load_wo1 D c
  have hq2 := load_wq2 D c
  have ho2 := load_wo2 D c
  have hq3 := load_wq3 D c
  have ho3 := load_wo3 D c
  have hx0 := load_x (F := F) f0
  have hx1 := load_w1 (F := F) f1
  have hx4 := load_w4 (F := F) f4
  -- the entry: the blocks the neighbours' copies write are lent to them
  sl_exec_parts
  iapply (signal_step D κ c (prv c) _ (dev1_eq c) true (O := Ocp c + tallyAt (barCell (nxt c)) () 1)) $$ [HO Hb1 A3 B3 A2]
  · isplitr; · iexact HR
    isplitl [HO]; · iexact HO
    isplitl [Hb1]; · iexact Hb1
    iapply (pay_prv D c _ _ _)
    isplitl [A3]; · iexact A3
    isplitl [B3]; · iexact B3
    isplitl [A2]; · iexact A2
    isplitr; · iexact rv0
    isplitr; · iexact rv1
    iexact rv4
  iintro HO
  sl_exec_parts
  iapply (signal_step D κ c (nxt c) _ (dev2_eq c) false (O := Ocp c)) $$ [HO Hb2 A1 B1 B2]
  · isplitr; · iexact HR
    isplitl [HO]; · iexact HO
    isplitl [Hb2]; · iexact Hb2
    iapply (pay_nxt D c _ _ _)
    isplitl [A1]; · iexact A1
    isplitl [B1]; · iexact B1
    isplitl [B2]; · iexact B2
    isplitr; · iexact rv2
    isplitr; · iexact rv3
    iexact rv5
  iintro HO
  sl_exec_parts
  iapply (bar_step D κ c) $$ [HO Hcb Hat]
  · isplitr; · iexact HR
    isplitr; · iexact Hlev
    isplitl [Hcb]; · iexact Hcb
    isplitl [HO]; · iexact HO
    iexact Hat
  unfold barPayN barPayP
  iintro ⟨HO, HatB, ⟨N3, M3, N2, #rn0, #rn1, #rn4⟩, ⟨N1, M1, M2, #rn2, #rn3, #rn5⟩⟩
  -- the own shards, stored and sent both ways round
  sl_exec_parts
  ihave A0 := (Entails.of_eq (own_wq D c _ (by
    intro x; rw [hq]; exact stored_wq g0 (k0_pay1 f1) _ x))) $$ A0
  ihave B0 := (Entails.of_eq (own_wo D c _ (by
    intro x; rw [ho]; exact stored_wo g1 (k0_pay2 f4) _ x))) $$ B0
  ihave A0 := (Entails.of_eq halves) $$ A0
  icases A0 with ⟨Aa, A0⟩
  ihave A0 := (Entails.of_eq halves) $$ A0
  icases A0 with ⟨Ab, A0⟩
  ihave B0 := (Entails.of_eq halves) $$ B0
  icases B0 with ⟨Ba, B0⟩
  ihave B0 := (Entails.of_eq halves) $$ B0
  icases B0 with ⟨Bb, B0⟩
  iapply (send_step D κ c 0 _ (dev3_eq c) slice_s0 slice_v0 (src := wq0) (dst := wq3) N_wq3 Entails.rfl (lands0 D c)
    (O := ((O45 c + tallyAt (vCell 3 (prv c)) () N) + tallyAt (vCell 1 (nxt c)) () N) + tallyAt (vCell 2 (prv c)) () N)) $$ [Aa N3 HO ts0 tv0]
  · isplitr; · iexact HR
    isplitl [Aa]; · iexact Aa
    isplitl [N3]; · iexact N3
    isplitl [HO]; · iexact HO
    isplitl [ts0]; · iexact ts0
    isplitr; · iexact rs0
    isplitl [tv0]; · iexact tv0
    iexact rn0
  iintro ⟨cs0, HO⟩
  sl_exec_parts
  iapply (send_step D κ c 2 _ (dev4_eq c) slice_s2 slice_v2 (src := wq0) (dst := wq1) N_wq1 Entails.rfl (lands2 D c)
    (O := (O45 c + tallyAt (vCell 3 (prv c)) () N) + tallyAt (vCell 1 (nxt c)) () N)) $$ [Ab N1 HO ts2 tv2]
  · isplitr; · iexact HR
    isplitl [Ab]; · iexact Ab
    isplitl [N1]; · iexact N1
    isplitl [HO]; · iexact HO
    isplitl [ts2]; · iexact ts2
    isplitr; · iexact rs2
    isplitl [tv2]; · iexact tv2
    iexact rn2
  iintro ⟨cs2, HO⟩
  sl_exec_parts
  iapply (send_step D κ c 1 _ (dev5_eq c) slice_s1 slice_v1 (src := wo0) (dst := wo3) N_wo3 Entails.rfl (lands1 D c)
    (O := O45 c + tallyAt (vCell 3 (prv c)) () N)) $$ [Ba M3 HO ts1 tv1]
  · isplitr; · iexact HR
    isplitl [Ba]; · iexact Ba
    isplitl [M3]; · iexact M3
    isplitl [HO]; · iexact HO
    isplitl [ts1]; · iexact ts1
    isplitr; · iexact rs1
    isplitl [tv1]; · iexact tv1
    iexact rn1
  iintro ⟨cs1, HO⟩
  sl_exec_parts
  iapply (send_step D κ c 3 _ (dev6_eq c) slice_s3 slice_v3 (src := wo0) (dst := wo1) N_wo1 Entails.rfl (lands3 D c)
    (O := O45 c)) $$ [Bb M1 HO ts3 tv3]
  · isplitr; · iexact HR
    isplitl [Bb]; · iexact Bb
    isplitl [M1]; · iexact M1
    isplitl [HO]; · iexact HO
    isplitl [ts3]; · iexact ts3
    isplitr; · iexact rs3
    isplitl [tv3]; · iexact tv3
    iexact rn3
  iintro ⟨cs3, HO⟩
  -- the caches, in slots
  set_option sl_exec.stopBefore "k0_part7" in sl_exec_parts
  ihave G2 := (Entails.of_eq (bf_congr (b := cc0_scratch2) (c := c) (g := slots c f2) (by
    exact slots_writes (Memref.whole cc0_scratch2).view g2 c f2 _ _ _ _ (by decide) (by decide) (by decide) (by decide)))) $$ G2
  ihave G3 := (Entails.of_eq (bf_congr (b := cc0_scratch3) (c := c) (g := slots c f3) (by
    exact slots_writes (Memref.whole cc0_scratch3).view g3 c f3 _ _ _ _ (by decide) (by decide) (by decide) (by decide)))) $$ G3
  -- the shards as they come in
  sl_exec_parts
  ihave H5 := (Entails.of_eq (bf_congr (b := cc0_stg5_0) (c := c) (g := shard D c f0 f2 f3 0) (by
    exact out_first (Memref.whole cc0_stg5_0).view f5 _ _ _ _ []))) $$ H5
  iapply (arrive_step D κ c 0 slice_v0 (O := O45 c) N_wq3 (mayWait_v c 0 (by decide)) (P := wq3P D fullShare c) rfl) $$ [cv0 HO v0]
  · isplitr; · iexact HR
    isplitr; · iexact Hlev
    isplitl [cv0]; · iexact cv0
    isplitl [HO]; · iexact HO
    iexact v0
  iintro ⟨HO, v0, A3⟩
  sl_exec_parts
  iapply (arrive_step D κ c 2 slice_v2 (O := O45 c) N_wq1 (mayWait_v c 2 (by decide)) (P := wq1P D fullShare c) rfl) $$ [cv2 HO v2]
  · isplitr; · iexact HR
    isplitr; · iexact Hlev
    isplitl [cv2]; · iexact cv2
    isplitl [HO]; · iexact HO
    iexact v2
  iintro ⟨HO, v2, A1⟩
  ihave A3 := (Entails.of_eq halves) $$ A3
  icases A3 with ⟨Ac, A3⟩
  rw [show O45 c = tallyAt (vCell 5 (prv c)) () N + tallyAt (vCell 4 (nxt c)) () N from add_comm _ _]
  sl_exec_parts
  iapply (send_step D κ c 4 _ (dev7_eq c) slice_s4 slice_v4 (src := wq3) (dst := wq2) N_wq2 Entails.rfl (lands4 D c)
    (O := tallyAt (vCell 5 (prv c)) () N)) $$ [Ac N2 HO ts4 tv4]
  · isplitr; · iexact HR
    isplitl [Ac]; · iexact Ac
    isplitl [N2]; · iexact N2
    isplitl [HO]; · iexact HO
    isplitl [ts4]; · iexact ts4
    isplitr; · iexact rs4
    isplitl [tv4]; · iexact tv4
    iexact rn4
  iintro ⟨cs4, HO⟩
  sl_exec_parts
  iapply (arrive_step D κ c 1 slice_v1 (O := tallyAt (vCell 5 (prv c)) () N) N_wo3 (mayWait_v5 c 1 (by decide)) (P := wo3P D fullShare c) rfl) $$ [cv1 HO v1]
  · isplitr; · iexact HR
    isplitr; · iexact Hlev
    isplitl [cv1]; · iexact cv1
    isplitl [HO]; · iexact HO
    iexact v1
  iintro ⟨HO, v1, B3⟩
  sl_exec_parts
  ihave H5 := (Entails.of_eq (bf_congr (b := cc0_stg5_0) (c := c) (g := addTo (shard D c f0 f2 f3 0) (shard D c f0 f2 f3 3)) (by
    exact out_next (Memref.whole cc0_stg5_0).view (shard D c f0 f2 f3 0) (shard D c f0 f2 f3 0) _ _ _ _ (by decide) (by decide) []))) $$ H5
  iapply (arrive_step D κ c 3 slice_v3 (O := tallyAt (vCell 5 (prv c)) () N) N_wo1 (mayWait_v5 c 3 (by decide)) (P := wo1P D fullShare c) rfl) $$ [cv3 HO v3]
  · isplitr; · iexact HR
    isplitr; · iexact Hlev
    isplitl [cv3]; · iexact cv3
    isplitl [HO]; · iexact HO
    iexact v3
  iintro ⟨HO, v3, B1⟩
  ihave B1 := (Entails.of_eq halves) $$ B1
  icases B1 with ⟨Bc, B1⟩
  rw [show tallyAt (vCell 5 (prv c)) () N = 0 + tallyAt (vCell 5 (prv c)) () N from (zero_add _).symm]
  sl_exec_parts
  iapply (send_step D κ c 5 _ (dev8_eq c) slice_s5 slice_v5 (src := wo1) (dst := wo2) N_wo2 Entails.rfl (lands5 D c)
    (O := 0)) $$ [Bc M2 HO ts5 tv5]
  · isplitr; · iexact HR
    isplitl [Bc]; · iexact Bc
    isplitl [M2]; · iexact M2
    isplitl [HO]; · iexact HO
    isplitl [ts5]; · iexact ts5
    isplitr; · iexact rs5
    isplitl [tv5]; · iexact tv5
    iexact rn5
  iintro ⟨cs5, HO⟩
  sl_exec_parts
  ihave H5 := (Entails.of_eq (bf_congr (b := cc0_stg5_0) (c := c) (g := addTo (addTo (shard D c f0 f2 f3 0) (shard D c f0 f2 f3 3)) (shard D c f0 f2 f3 1)) (by
    exact out_next (Memref.whole cc0_stg5_0).view (addTo (shard D c f0 f2 f3 0) (shard D c f0 f2 f3 3)) (addTo (shard D c f0 f2 f3 0) (shard D c f0 f2 f3 3)) _ _ _ _ (by decide) (by decide) []))) $$ H5
  iapply (arrive_step D κ c 4 slice_v4 (O := 0) N_wq2 (by rw [MayWait_zero]; iintro -; iempintro) (P := wq2P D fullShare c) rfl) $$ [cv4 HO v4]
  · isplitr; · iexact HR
    isplitr; · iexact Hlev
    isplitl [cv4]; · iexact cv4
    isplitl [HO]; · iexact HO
    iexact v4
  iintro ⟨HO, v4, A2⟩
  sl_exec_parts
  iapply (arrive_step D κ c 5 slice_v5 (O := 0) N_wo2 (by rw [MayWait_zero]; iintro -; iempintro) (P := wo2P D fullShare c) rfl) $$ [cv5 HO v5]
  · isplitr; · iexact HR
    isplitr; · iexact Hlev
    isplitl [cv5]; · iexact cv5
    isplitl [HO]; · iexact HO
    iexact v5
  iintro ⟨HO, v5, B2⟩
  -- the copies out have left
  sl_exec_parts
  iapply (return_step D κ c 0 slice_s0 N_wq0 (P := wq0P D qA c) rfl) $$ [cs0 HO s0]
  · isplitr; · iexact HR
    isplitl [cs0]; · iexact cs0
    isplitl [HO]; · iexact HO
    iexact s0
  iintro ⟨HO, s0, Aa⟩
  sl_exec_parts
  iapply (return_step D κ c 1 slice_s1 N_wo0 (P := wo0P D qA c) rfl) $$ [cs1 HO s1]
  · isplitr; · iexact HR
    isplitl [cs1]; · iexact cs1
    isplitl [HO]; · iexact HO
    iexact s1
  iintro ⟨HO, s1, Ba⟩
  sl_exec_parts
  iapply (return_step D κ c 2 slice_s2 N_wq0 (P := wq0P D qB c) rfl) $$ [cs2 HO s2]
  · isplitr; · iexact HR
    isplitl [cs2]; · iexact cs2
    isplitl [HO]; · iexact HO
    iexact s2
  iintro ⟨HO, s2, Ab⟩
  sl_exec_parts
  iapply (return_step D κ c 3 slice_s3 N_wo0 (P := wo0P D qB c) rfl) $$ [cs3 HO s3]
  · isplitr; · iexact HR
    isplitl [cs3]; · iexact cs3
    isplitl [HO]; · iexact HO
    iexact s3
  iintro ⟨HO, s3, Bb⟩
  sl_exec_parts
  iapply (return_step D κ c 4 slice_s4 N_wq3 (P := wq3P D fullShare.left c) rfl) $$ [cs4 HO s4]
  · isplitr; · iexact HR
    isplitl [cs4]; · iexact cs4
    isplitl [HO]; · iexact HO
    iexact s4
  iintro ⟨HO, s4, Ac⟩
  sl_exec_parts
  iapply (return_step D κ c 5 slice_s5 N_wo1 (P := wo1P D fullShare.left c) rfl) $$ [cs5 HO s5]
  · isplitr; · iexact HR
    isplitl [cs5]; · iexact cs5
    isplitl [HO]; · iexact HO
    iexact s5
  iintro ⟨HO, s5, Bc⟩
  sl_exec_parts
  ihave H5 := (Entails.of_eq (bf_congr (b := cc0_stg5_0) (c := c) (g := addTo (addTo (addTo (shard D c f0 f2 f3 0) (shard D c f0 f2 f3 3)) (shard D c f0 f2 f3 1)) (shard D c f0 f2 f3 2)) (by
    exact out_next (Memref.whole cc0_stg5_0).view (addTo (addTo (shard D c f0 f2 f3 0) (shard D c f0 f2 f3 3)) (shard D c f0 f2 f3 1)) (addTo (addTo (shard D c f0 f2 f3 0) (shard D c f0 f2 f3 3)) (shard D c f0 f2 f3 1)) _ _ _ _ (by decide) (by decide) []))) $$ H5
  -- every cell closed, the buffers whole
  ihave A0 := (join_wq D c) $$ [Aa Ab A0 A1 A2 Ac A3]
  · isplitl [Aa]; · iexact Aa
    isplitl [Ab]; · iexact Ab
    isplitl [A0]; · iexact A0
    isplitl [A1]; · iexact A1
    isplitl [A2]; · iexact A2
    isplitl [Ac]; · iexact Ac
    iexact A3
  ihave B0 := (join_wo D c) $$ [Ba Bb B0 Bc B1 B2 B3]
  · isplitl [Ba]; · iexact Ba
    isplitl [Bb]; · iexact Bb
    isplitl [B0]; · iexact B0
    isplitl [Bc]; · iexact Bc
    isplitl [B1]; · iexact B1
    isplitl [B2]; · iexact B2
    iexact B3
  imod (close_cell D κ (bar_mem c)) $$ [HatB] with HatB
  · isplitr; · iexact HR
    iexact HatB
  imod (BI.bigSep_fupd (Fr := frame) (E := Set.univ) Finset.univ fun i : Fin 6 => iprop(semVal (sCell i c) 0 ∗ semVal (vCell i c) 0)) $$ [s0 s1 s2 s3 s4 s5 v0 v1 v2 v3 v4 v5] with Hcells
  · rw [six]
    isplitl [s0 v0]
    · iapply (close_copy D κ c 0)
      isplitr; · iexact HR
      isplitl [s0]; · iexact s0
      iexact v0
    isplitl [s1 v1]
    · iapply (close_copy D κ c 1)
      isplitr; · iexact HR
      isplitl [s1]; · iexact s1
      iexact v1
    isplitl [s2 v2]
    · iapply (close_copy D κ c 2)
      isplitr; · iexact HR
      isplitl [s2]; · iexact s2
      iexact v2
    isplitl [s3 v3]
    · iapply (close_copy D κ c 3)
      isplitr; · iexact HR
      isplitl [s3]; · iexact s3
      iexact v3
    isplitl [s4 v4]
    · iapply (close_copy D κ c 4)
      isplitr; · iexact HR
      isplitl [s4]; · iexact s4
      iexact v4
    iapply (close_copy D κ c 5)
    isplitr; · iexact HR
    isplitl [s5]; · iexact s5
    iexact v5
  rw [wp_ret]
  imodintro
  iapply K
  unfold bodyPost
  isplitl [HO]; · iexact HO
  isplitl [HatB]; · iexact HatB
  isplitl [Hcells]; · iexact Hcells
  isplitl [H0]; · iexact H0
  isplitl [H1]; · iexact H1
  isplitl [H2]; · iexact H2
  isplitl [H3]; · iexact H3
  isplitl [H4]; · iexact H4
  isplitl [H5]; · iexact H5
  isplitl [A0]; · iexact A0
  isplitl [B0]; · iexact B0
  isplitl [G2]; · iexact G2
  iexact G3

end Cert.Ring

end
-- ==== Proof.Region.lean ====
/-
The kernel's region: what each window holds, the body's obligation from the body's run, and the region's record, entered
owing every barrier unit and every copy's credit and left owing nothing.
-/
module

public import proofs.«01_k».proof.Proof.Body
public import proofs.«01_k».proof.Proof.Gen.KernelIdeal.Points
public import proofs.«01_k».proof.Proof.Gen.KernelIdeal.Frame

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## Valuations -/

/-- A device's buffers at launch. -/
abbrev V₀ (c : Dev nD) : Valuation τ sig (Elt F) := fun b => m ((c : Dev nD), b)
/-- A device's buffers after the host's reshapes. -/
abbrev V₁ (c : Dev nD) : Valuation τ sig (Elt F) := StableHlo.after hostOps0 (V₀ m c)

/-- The blocks the devices pass round: each device's own weights, cast. -/
def blocks : Blocks F := ⟨fun c => k0_pay1 (iblk m c 1 t0_0), fun c => k0_pay2 (iblk m c 4 t0_0)⟩

/-- What device `c`'s kernel leaves in its result. -/
def resC (c : Dev nD) : Vec F S2x512x768 .f32 := outC (blocks m) c (iblk m c 0 t0_0) (iblk m c 2 t0_0) (iblk m c 3 t0_0)

/-! ## The proof data -/

/-- The four scratch buffers at contents not chosen. -/
def scratch (c : Dev nD) : sProp 𝕄 :=
  iprop((∃ f, bf cc0_scratch0 c f) ∗ (∃ f, bf cc0_scratch1 c f) ∗ (∃ f, bf cc0_scratch2 c f) ∗ (∃ f, bf cc0_scratch3 c f))

/-- What the region is entered with once its cells are open. -/
def Xk (c : Dev nD) : sProp 𝕄 :=
  iprop((∃ κ, recs (blocks m) κ) ∗ levAts L lv ∗ barRes c ∗ bigSep Finset.univ fun i : Fin 6 => copyRes i c)
/-- The barrier cell's counter back in hand. -/
def Yk (c : Dev nD) : sProp 𝕄 := semVal (barCell c) 0
/-- The twelve own counters at zero, copy by copy. -/
def own0 (c : Dev nD) : sProp 𝕄 := bigSep Finset.univ fun i : Fin 6 => iprop(semVal (sCell i c) 0 ∗ semVal (vCell i c) 0)

/-- The one point of the grid: each input window at its array, the result window at what the kernel computes. -/
def dat (c : Dev nD) : Dat τ (Elt F) Unit ℕ UU ℕ cfg0 c where
  A w := V m c (Pipeline.arrRef spec0 w)
  after
    | 0, t => iblk m c 0 t
    | 1, t => iblk m c 1 t
    | 2, t => iblk m c 2 t
    | 3, t => iblk m c 3 t
    | 4, t => iblk m c 4 t
    | 5, _ => resC m c
    | ⟨_ + 6, h⟩, _ => absurd h (Nat.not_lt.2 (Nat.le_add_left _ _))
  Φ t := if t.val = 0 then iprop(Xk m c ∗ scratch c ∗ ∃ r, prngReg c r)
    else iprop(Yk c ∗ own0 c ∗ scratch c ∗ ∃ r, prngReg c r)
  q _ := fullShare
  owed t := if t.val = 0 then O₀ c else 0

/-- Before the body a device owes everything. -/
theorem owed_first (c : Dev nD) : (dat m c).owed t0_0.castSucc = O₀ c := by
  show (if (t0_0.castSucc : Fin (cfg0.N + 1)).val = 0 then O₀ c else 0) = O₀ c; exact if_pos rfl
/-- After the body a device owes nothing. -/
theorem owed_last (c : Dev nD) : (dat m c).owed t0_0.succ = 0 := by
  show (if (t0_0.succ : Fin (cfg0.N + 1)).val = 0 then O₀ c else 0) = 0; exact if_neg (Nat.succ_ne_zero _)

/-- The debt, in the pipeline's form. -/
theorem owesAt_intro (c : Dev nD) (t : Fin (cfg0.N + 1)) (O : CellTallies nD τ sig Unit) (h0 : (dat m c).owed t = O) :
    (ow c O : sProp 𝕄) ⊢ ((dat m c).owesAt () t : sProp 𝕄) := by
  unfold ow Dat.owesAt Pipeline.owesWithin Dat.bound; rw [h0, show (dat m c).recorded t = Set.univ from rfl]
  iintro ⟨%W, HO⟩; iexists W; isplitr; · ipureintro; exact fun _ _ => Or.inl trivial
  iexact HO
/-- The debt, out of the pipeline's form. -/
theorem owesAt_elim (c : Dev nD) (t : Fin (cfg0.N + 1)) (O : CellTallies nD τ sig Unit) (h0 : (dat m c).owed t = O) :
    ((dat m c).owesAt () t : sProp 𝕄) ⊢ ow c O := by
  unfold ow Dat.owesAt Pipeline.owesWithin; rw [h0]
  iintro ⟨%W, -, HO⟩; iexists W; iexact HO

/-- An input window whose block the body leaves in place holds that block when the body starts. -/
theorem before_in (c : Dev nD) (w : Fin cfg0.W) (hw : (cfg0.win w).isOut = false) (hclip : ∀ t t' : Fin cfg0.N, (cfg0.win w).index t = (cfg0.win w).index t' → (cfg0.win w).clip (cfg0.grid.coords t) = (cfg0.win w).clip (cfg0.grid.coords t'))
    (hcut : ∀ t, (cfg0.win w).cut (cfg0.grid.coords t) ((dat m c).after w t) = (dat m c).blockOf w t)
    (t : Fin cfg0.N) (d) : (dat m c).before w t d = (dat m c).fetched w t d :=
  (dat m c).before_in_eq_fetched w hw (fun _ => rfl) hclip hcut t d
/-- Window 0 before the body holds its block. -/
theorem before0 (c : Dev nD) (d) : (dat m c).before 0 t0_0 d = iblk m c 0 t0_0 := before_in m c 0 rfl (fun _ _ _ => rfl) (fun _ => rfl) t0_0 d
/-- Window 1 before the body holds its block. -/
theorem before1 (c : Dev nD) (d) : (dat m c).before 1 t0_0 d = iblk m c 1 t0_0 := before_in m c 1 rfl (fun _ _ _ => rfl) (fun _ => rfl) t0_0 d
/-- Window 2 before the body holds its block. -/
theorem before2 (c : Dev nD) (d) : (dat m c).before 2 t0_0 d = iblk m c 2 t0_0 := before_in m c 2 rfl (fun _ _ _ => rfl) (fun _ => rfl) t0_0 d
/-- Window 3 before the body holds its block. -/
theorem before3 (c : Dev nD) (d) : (dat m c).before 3 t0_0 d = iblk m c 3 t0_0 := before_in m c 3 rfl (fun _ _ _ => rfl) (fun _ => rfl) t0_0 d
/-- Window 4 before the body holds its block. -/
theorem before4 (c : Dev nD) (d) : (dat m c).before 4 t0_0 d = iblk m c 4 t0_0 := before_in m c 4 rfl (fun _ _ _ => rfl) (fun _ => rfl) t0_0 d

/-- Each window's buffer held is the buffer's points-to. -/
theorem owns_bf (c : Dev nD) (b : Ref sig .tc) (X : b.ty.Contents (Elt F)) :
    (owns (c : Thread nD τ) (Memref.whole b) fullShare X : sProp 𝕄) = bf b c X := by
  rw [owns_whole_eq]
  refine BI.equiv_iff.mp ⟨?_, ?_⟩
  · show iprop(∃ f, ⌜f = X⌝ ∗ (c : Thread nD τ).loc b ↦{fullShare} f) ⊢ (bf b c X : sProp 𝕄)
    iintro ⟨%f, %h, H⟩
    rw [← h]
    iexact H
  · show (bf b c X : sProp 𝕄) ⊢ iprop(∃ f, ⌜f = X⌝ ∗ (c : Thread nD τ).loc b ↦{fullShare} f)
    iintro H
    iexists X
    isplitr; · ipureintro; rfl
    iexact H

/-- The invariant before the body. -/
theorem phi_first (c : Dev nD) : (dat m c).Φ t0_0.castSucc = iprop(Xk m c ∗ scratch c ∗ ∃ r, prngReg c r) := by
  show (if (t0_0.castSucc : Fin (cfg0.N + 1)).val = 0 then iprop(Xk m c ∗ scratch c ∗ ∃ r, prngReg c r) else iprop(Yk c ∗ own0 c ∗ scratch c ∗ ∃ r, prngReg c r)) = _; exact if_pos rfl
/-- The invariant after the body. -/
theorem phi_last (c : Dev nD) : (dat m c).Φ t0_0.succ = iprop(Yk c ∗ own0 c ∗ scratch c ∗ ∃ r, prngReg c r) := by
  show (if (t0_0.succ : Fin (cfg0.N + 1)).val = 0 then iprop(Xk m c ∗ scratch c ∗ ∃ r, prngReg c r) else iprop(Yk c ∗ own0 c ∗ scratch c ∗ ∃ r, prngReg c r)) = _; exact if_neg (Nat.succ_ne_zero _)

set_option maxHeartbeats 1000000 in
/-- The body's run at the region's one point. -/
theorem bodyAt (c : Dev nD) :
    iprop((Xk m c ∗ scratch c ∗ ∃ r, prngReg c r) ∗ (dat m c).owesAt () t0_0.castSucc
        ∗ (∃ d, owns (c : Thread nD τ) (Memref.whole cc0_stg0_0) fullShare ((dat m c).before 0 t0_0 d))
        ∗ (∃ d, owns (c : Thread nD τ) (Memref.whole cc0_stg1_0) fullShare ((dat m c).before 1 t0_0 d))
        ∗ (∃ d, owns (c : Thread nD τ) (Memref.whole cc0_stg2_0) fullShare ((dat m c).before 2 t0_0 d))
        ∗ (∃ d, owns (c : Thread nD τ) (Memref.whole cc0_stg3_0) fullShare ((dat m c).before 3 t0_0 d))
        ∗ (∃ d, owns (c : Thread nD τ) (Memref.whole cc0_stg4_0) fullShare ((dat m c).before 4 t0_0 d))
        ∗ (∃ d, owns (c : Thread nD τ) (Memref.whole cc0_stg5_0) fullShare ((dat m c).before 5 t0_0 d)))
      ⊢ wp frame (wpE (defs₀ (F := F)) 𝒱₀ c none) Set.univ (theBody (F := F)) fun _ =>
        iprop((Yk c ∗ own0 c ∗ scratch c ∗ ∃ r, prngReg c r) ∗ (dat m c).owesAt () t0_0.succ
          ∗ owns (c : Thread nD τ) (Memref.whole cc0_stg0_0) fullShare (iblk m c 0 t0_0)
          ∗ owns (c : Thread nD τ) (Memref.whole cc0_stg1_0) fullShare (iblk m c 1 t0_0)
          ∗ owns (c : Thread nD τ) (Memref.whole cc0_stg2_0) fullShare (iblk m c 2 t0_0)
          ∗ owns (c : Thread nD τ) (Memref.whole cc0_stg3_0) fullShare (iblk m c 3 t0_0)
          ∗ owns (c : Thread nD τ) (Memref.whole cc0_stg4_0) fullShare (iblk m c 4 t0_0)
          ∗ owns (c : Thread nD τ) (Memref.whole cc0_stg5_0) fullShare (resC m c)) := by
  unfold Xk scratch
  iintro ⟨⟨⟨⟨%κ, #HR⟩, #Hlev, Hbar, Hcp⟩, ⟨⟨%g0, G0⟩, ⟨%g1, G1⟩, ⟨%g2, G2⟩, ⟨%g3, G3⟩⟩, Hreg⟩, HO,
    ⟨⟨%d0, H0⟩, ⟨%d1, H1⟩, ⟨%d2, H2⟩, ⟨%d3, H3⟩, ⟨%d4, H4⟩, ⟨%d5, H5⟩⟩⟩
  ihave HO := (owesAt_elim m c _ (O₀ c) (owed_first m c)) $$ HO
  rw [before0, before1, before2, before3, before4]
  ihave H0 := (Entails.of_eq (owns_bf c cc0_stg0_0 (iblk m c 0 t0_0))) $$ H0
  ihave H1 := (Entails.of_eq (owns_bf c cc0_stg1_0 (iblk m c 1 t0_0))) $$ H1
  ihave H2 := (Entails.of_eq (owns_bf c cc0_stg2_0 (iblk m c 2 t0_0))) $$ H2
  ihave H3 := (Entails.of_eq (owns_bf c cc0_stg3_0 (iblk m c 3 t0_0))) $$ H3
  ihave H4 := (Entails.of_eq (owns_bf c cc0_stg4_0 (iblk m c 4 t0_0))) $$ H4
  ihave H5 := (Entails.of_eq (owns_bf c cc0_stg5_0 ((dat m c).before 5 t0_0 d5))) $$ H5
  iapply (bodyRun (blocks m) κ c (iblk m c 0 t0_0) (iblk m c 1 t0_0) (iblk m c 2 t0_0) (iblk m c 3 t0_0) (iblk m c 4 t0_0)
    ((dat m c).before 5 t0_0 d5) g0 g1 g2 g3 _ rfl rfl)
  isplitr; · iexact HR
  isplitr; · iexact Hlev
  isplitl [HO]; · iexact HO
  isplitr [Hreg]
  · unfold bodyPre
    isplitl [Hbar]; · iexact Hbar
    isplitl [Hcp]; · iexact Hcp
    isplitl [H0]; · iexact H0
    isplitl [H1]; · iexact H1
    isplitl [H2]; · iexact H2
    isplitl [H3]; · iexact H3
    isplitl [H4]; · iexact H4
    isplitl [H5]; · iexact H5
    isplitl [G0]; · iexact G0
    isplitl [G1]; · iexact G1
    isplitl [G2]; · iexact G2
    iexact G3
  unfold bodyPost
  iintro ⟨HO, Hb, Hs, H0, H1, H2, H3, H4, H5, G0, G1, G2, G3⟩
  isplitl [Hb Hs G0 G1 G2 G3 Hreg]
  · isplitl [Hb]; · unfold Yk; iexact Hb
    isplitl [Hs]; · unfold own0; iexact Hs
    isplitl [G0 G1 G2 G3]
    · isplitl [G0]; · iexists _; iexact G0
      isplitl [G1]; · iexists _; iexact G1
      isplitl [G2]; · iexists _; iexact G2
      iexists _; iexact G3
    iexact Hreg
  isplitl [HO]; · iapply (owesAt_intro m c t0_0.succ 0 (owed_last m c)); iexact HO
  isplitl [H0]; · iapply (Entails.of_eq (owns_bf c cc0_stg0_0 (iblk m c 0 t0_0)).symm); iexact H0
  isplitl [H1]; · iapply (Entails.of_eq (owns_bf c cc0_stg1_0 (iblk m c 1 t0_0)).symm); iexact H1
  isplitl [H2]; · iapply (Entails.of_eq (owns_bf c cc0_stg2_0 (iblk m c 2 t0_0)).symm); iexact H2
  isplitl [H3]; · iapply (Entails.of_eq (owns_bf c cc0_stg3_0 (iblk m c 3 t0_0)).symm); iexact H3
  isplitl [H4]; · iapply (Entails.of_eq (owns_bf c cc0_stg4_0 (iblk m c 4 t0_0)).symm); iexact H4
  iapply (Entails.of_eq (owns_bf c cc0_stg5_0 (resC m c)).symm); iexact H5

set_option maxRecDepth 16384 in
/-- The body's obligation: its run. -/
theorem bodyOb (c : Dev nD) : BodyObligation (dat m c) defs₀ 𝒱₀ () Set.univ := fun t => by
  obtain rfl := fin_N0 t
  rw [bigSep_W0, bigSep_W0, phi_first, phi_last]
  rw [show defs₀ (F := F) .tc cfg0.body (cfg0.bodyArgs t0_0 (cfg0.slots t0_0)) = theBody (F := F) from rfl]
  exact bodyAt m c

end Cert.Ring

end
-- ==== Proof.Launch.lean ====
/-
The launch: the region's record, the ghost state dealt out to the four devices, and the run of the whole program.
-/
module

public import proofs.«01_k».proof.Proof.Region
public import Idealize.ShloMosaic.Lib.Pipeline.RegionTalk
public import Idealize.ShloMosaic.Harness.Basic
public import Idealize.ShloMosaic.Lib.Pipeline.ValueKit.Geometry

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Smoke (bigSep_pair bigSep_unpair)
open Idealize.ShloMosaic.Pipeline (Dat Cfg BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The buffers outside the region -/

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | 0 => dat m
  | ⟨_ + 1, h⟩ => absurd h (Nat.not_lt.2 (Nat.le_add_left _ _))

/-- The buffers a device keeps for the whole program. -/
def bufs : Finset (DevRef τ sig) := (StableHlo.tcRefs τ sig).filter fun b => ¬ b.isScoped
/-- Those of them that are no window's array. -/
def others : Finset (DevRef τ sig) := bufs \ Pipeline.arrRefs spec0

/-- A device's buffers at launch, held as the host's valuation. -/
theorem bufs_held (c : Dev nD) (W : Valuation τ sig (Elt F)) :
    (unscopedBufs c (fun b => W b) : sProp 𝕄) = StableHlo.held (c : Thread nD τ) bufs W := by
  unfold unscopedBufs StableHlo.held bufs StableHlo.tcRefs
  rw [Finset.filter_map, BI.bigSep_map]
  rfl

/-- The windows' arrays are among the device's buffers. -/
theorem arr_sub : Pipeline.arrRefs (τ := τ) spec0 ⊆ bufs := by decide

/-- A device's buffers after the region: the result written, everything else as before. -/
def V₂ (c : Dev nD) : Valuation τ sig (Elt F) :=
  Function.update (V₁ m c) (Proc.devRef .tc main_v4) (resC m c)

/-- The region changes no buffer but the result. -/
theorem V₂_ne (c : Dev nD) (b : DevRef τ sig) (h : b ≠ Proc.devRef .tc main_v4) : V₂ m c b = V₁ m c b := by
  unfold V₂; exact Function.update_of_ne h _ _
/-- The region leaves the body's value in the result. -/
theorem V₂_res (c : Dev nD) : V₂ m c (Proc.devRef .tc main_v4) = resC m c := by
  unfold V₂; exact Function.update_self _ _ _

/-- No buffer outside the windows is the result. -/
theorem others_ne : ∀ b ∈ others, b ≠ Proc.devRef (τ := τ) .tc main_v4 := by decide

/-! ## The region's windows, before and after -/

/-- A window's array starts with what the host left in it. -/
theorem arr_first (c : Dev nD) (w : Fin 6) : (pdats m 0 c).arrAt w 0 = V₁ m c (Proc.devRef .tc (Pipeline.arrRef spec0 w)) := rfl

/-- An input window's array ends as it was. -/
theorem arr_in (c : Dev nD) (w : Fin 6) (h : (cfg0.win w).isOut = false) (hne : Proc.devRef (τ := τ) .tc (Pipeline.arrRef spec0 w) ≠ Proc.devRef .tc main_v4) :
    (dat m c).arrAt w cfg0.N = V₂ m c (Proc.devRef .tc (Pipeline.arrRef spec0 w)) := by
  rw [V₂_ne m c _ hne]
  exact (dat m c).arrAt_in w h _

/-- The result's array ends with the body's value. -/
theorem arr_out (c : Dev nD) : (dat m c).arrAt 5 cfg0.N = resC m c := by
  refine (dat m c).arrAt_eq_of_after_last 5 t0_0 (by decide +kernel) (resC m c) fun j => ?_
  rfl

/-- Every window's array ends with the valuation after the region. -/
theorem arr_last (c : Dev nD) : ∀ w : Fin 6, (dat m c).arrAt w cfg0.N = V₂ m c (Proc.devRef .tc (Pipeline.arrRef spec0 w))
  | 0 => arr_in m c 0 rfl (by decide)
  | 1 => arr_in m c 1 rfl (by decide)
  | 2 => arr_in m c 2 rfl (by decide)
  | 3 => arr_in m c 3 rfl (by decide)
  | 4 => arr_in m c 4 rfl (by decide)
  | 5 => (arr_out m c).trans (V₂_res m c).symm

/-! ## The region's own cells -/

/-- Associativity of the separating conjunction, as an equation. -/
theorem regroup (P Q R : sProp 𝕄) : iprop((P ∗ Q) ∗ R) = iprop(P ∗ Q ∗ R) := BI.equiv_iff.mp ⟨BI.sep_assoc, BI.sep_assoc'⟩

/-- Twelve cells in the copies' order. -/
theorem twelve (Φ : Fin 12 → sProp 𝕄) : bigSep Finset.univ Φ
    = bigSep Finset.univ fun i : Fin 6 => iprop(Φ ⟨i.val, by have := i.isLt; omega⟩ ∗ Φ ⟨6 + i.val, by have := i.isLt; omega⟩) := by
  rw [bigSep_sep', six, six]
  refine (bigSep_univ_eq_bigSepL [(0 : Fin 12), 1, 2, 3, 4, 5, 6, 7, 8, 9, 10, 11] (by decide) (by decide) Φ).trans ?_
  simp only [regroup]
  rfl

/-- Twelve cells are six departure cells and six arrival cells. -/
theorem copies (Ψ : SemLoc sig → sProp 𝕄) : bigSep Finset.univ (fun k : Fin 12 => Ψ (osem k))
    = bigSep Finset.univ fun i : Fin 6 => iprop(Ψ (.dma (sS i)) ∗ Ψ (.dma (vS i))) := by
  rw [twelve]
  exact bigSep_congr fun i _ => by rw [osem_s, osem_v]

/-- The region's own cells at zero, in the copies' order. -/
theorem own_eq (c : Dev nD) : (Pipeline.ownSems0 osem c : sProp 𝕄) = own0 c :=
  copies fun sm => semVal ((c : Thread nD τ), sm) 0

/-- The one cell outside the region is the barrier's. -/
theorem sems_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

/-- Copy `i`'s part of what the launch deals: its own two cells still to be opened. -/
def copyTk (i : Fin 6) (c : Dev nD) : sProp 𝕄 :=
  iprop((openTok ER (sCell i c) ∗ openTok ER (vCell i c)) ∗ (dutyTok ER (sCell i c) 0 true ∗ dutyTok ER (vCell i (tgt i c)) 0 true)
    ∗ cred (tallyAt (vCell i c) () N))
/-- What a device enters the region with. -/
def Tk (c : Dev nD) : sProp 𝕄 := iprop((∃ κ, recs (blocks m) κ) ∗ barRes c ∗ bigSep Finset.univ fun i : Fin 6 => copyTk i c)

/-- A copy's tokens and its two cells at zero give the copy's resources. -/
theorem open_copy (D : Blocks F) (κ : GSem nD τ sig → ℕ) (c : Dev nD) (i : Fin 6) :
    iprop(recs D κ ∗ (copyTk i c ∗ (semVal (sCell i c) 0 ∗ semVal (vCell i c) 0))) ⊢ (|={Set.univ}=> copyRes i c : sProp 𝕄) := by
  unfold copyTk copyRes
  iintro ⟨#HR, ⟨⟨Hos, Hov⟩, ⟨Hts, Htv⟩, Hc⟩, Hs, Hv⟩
  imod (Rounds.cell_open ER (Rd D) (g := sCell i c) (Set.mem_univ (κ (sCell i c)))) $$ [Hos Hs] with ⟨Has, #Hrs⟩
  · isplitr; · iapply (recs_inv D κ (s_mem i c)); iexact HR
    isplitl [Hos] <;> iassumption
  imod (Rounds.cell_open ER (Rd D) (g := vCell i c) (Set.mem_univ (κ (vCell i c)))) $$ [Hov Hv] with ⟨Hav, #Hrv⟩
  · isplitr; · iapply (recs_inv D κ (v_mem i c)); iexact HR
    isplitl [Hov] <;> iassumption
  imodintro
  isplitl [Has]; · iexact Has
  isplitr; · iexact Hrs
  isplitl [Hav]; · iexact Hav
  isplitr; · iexact Hrv
  isplitl [Hts]; · iexact Hts
  isplitl [Htv]; · iexact Htv
  iexact Hc

/-- Entering the region, a device opens its own twelve cells. -/
theorem hopen (c : Dev nD) : iprop(Tk m c ∗ Pipeline.ownSems0 osem c ∗ levAts L lv) ⊢ (|={Set.univ}=> Xk m c : sProp 𝕄) := by
  rw [own_eq]
  unfold Tk Xk own0
  iintro ⟨⟨⟨%κ, #HR⟩, Hb, Hc⟩, Hs, #Hlev⟩
  imod (show iprop(recs (blocks m) κ ∗ bigSep Finset.univ fun i : Fin 6 => iprop(copyTk i c ∗ (semVal (sCell i c) 0 ∗ semVal (vCell i c) 0)))
      ⊢ (|={Set.univ}=> bigSep Finset.univ fun i : Fin 6 => copyRes i c : sProp 𝕄) from
    (bigSep_with_persistent (S := Finset.univ) (R := recs (blocks m) κ) fun i _ => open_copy (blocks m) κ c i).trans (bigSep_fupd _ _)) $$ [Hc Hs] with Hres
  · isplitr; · iexact HR
    iapply bigSep_pair
    isplitl [Hc] <;> iassumption
  imodintro
  isplitr; · iexists κ; iexact HR
  isplitr; · iexact Hlev
  isplitl [Hb] <;> iassumption

/-- To hold no buffer is to hold nothing. -/
theorem held_none (c : Dev nD) (W : Valuation τ sig (Elt F)) : (StableHlo.held (c.tc : Thread nD τ) (∅ : Finset (DevRef τ sig)) W : sProp 𝕄) = BI.emp := by
  unfold StableHlo.held; exact BI.bigSep_empty

/-- What the region allots beside the windows is the four slots. -/
theorem rest_eq (c : Dev nD) : (Pipeline.scopedRest (Ix := Unit) (Name := ℕ) (U := UU) (Lvl := ℕ) (Val := Elt F) (Pipeline.pin (pcfgs (F := F)) adm 0).spec c : sProp 𝕄)
    = scratch c := scopedRest0_eq c

/-- What the region starts with makes the body's first invariant. -/
theorem hin (c : Dev nD) : iprop(Pipeline.scopedRest (Pipeline.pin (pcfgs (F := F)) adm 0).spec c ∗ (∃ r, prngReg c r) ∗ StableHlo.held (c.tc : Thread nD τ) ∅ (V₁ m c) ∗ Xk m c)
    ⊢ (pdats m 0 c).Φ 0 := by
  rw [show (pdats m 0 c).Φ 0 = iprop(Xk m c ∗ scratch c ∗ ∃ r, prngReg c r) from phi_first m c, rest_eq]
  iintro ⟨Hs, Hp, -, HX⟩
  isplitl [HX]; · iexact HX
  isplitl [Hs] <;> iassumption

/-- The body's last invariant gives back what the region must return. -/
theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) ∅ (V₂ m c) ∗ Pipeline.ownSems0 osem c ∗ Yk c) := by
  rw [show (pdats m 0 c).Φ (Fin.last _) = iprop(Yk c ∗ own0 c ∗ scratch c ∗ ∃ r, prngReg c r) from phi_last m c, own_eq, rest_eq, held_none]
  iintro ⟨HY, Ho, Hs, Hp⟩
  isplitl [Hs]; · iexact Hs
  isplitl [Hp]; · iexact Hp
  isplitr; · iempintro
  isplitl [Ho] <;> iassumption

/-! ## The levels of what is owed -/

/-- A device owes to arrival cells and to its neighbours' barriers only. -/
theorem owed_pos {c : Dev nD} {g : GSem nD τ sig} {u : Unit} (h : 0 < O₀ c g u) :
    (∃ i : Fin 6, g = vCell i (tgt i c)) ∨ g = barCell (nxt c) ∨ g = barCell (prv c) := by
  unfold O₀ at h
  rw [Pi.add_apply, Finsupp.add_apply, Pi.add_apply, Finsupp.add_apply] at h
  rcases Nat.add_pos_iff_pos_or_pos.mp h with h | h
  · rcases Nat.add_pos_iff_pos_or_pos.mp h with h | h
    · exact .inl (Ocp_pos h)
    · exact .inr (.inl (Pipeline.tallyAt_pos h).1)
  · exact .inr (.inr (Pipeline.tallyAt_pos h).1)

/-- Whatever is owed lies above level zero. -/
theorem cut (c : Dev nD) (t : Fin (cfg0.N + 1)) (g : GSem nD τ sig) (i : Unit) (h : 0 < (dat m c).owed t g i) : i ∈ L g ∧ (0 : ℕ) < lv g i := by
  have e : (dat m c).owed t = if t.val = 0 then O₀ c else 0 := rfl
  rw [e] at h
  split at h
  · rcases owed_pos h with ⟨j, rfl⟩ | rfl | rfl
    · exact ⟨by rw [L_tc]; exact Finset.mem_singleton_self _, Nat.lt_of_lt_of_le (by decide) (lv_v j)⟩
    · exact ⟨by rw [L_tc]; exact Finset.mem_singleton_self _, by show 0 < lvOf (.reg barS); decide⟩
    · exact ⟨by rw [L_tc]; exact Finset.mem_singleton_self _, by show 0 < lvOf (.reg barS); decide⟩
  · exact absurd h (Nat.lt_irrefl 0)

/-- The staging cells lie at level zero. -/
theorem stage_low : ∀ (w : Fin 6) (s : Fin (spec0 w).nbuf), lvOf (.dma ((spec0 w).sem s)) ≤ 0 := by decide

set_option backward.isDefEq.respectTransparency.types false in
/-- The region's record. -/
def reg0 : Pipeline.RegionSeg (pcfgs (F := F)) adm (pdats m) () defs₀ 𝒱₀ L lv 0 :=
  Pipeline.RegionSeg.ofTalk (pcfgs (F := F)) adm (pdats m) () defs₀ 𝒱₀ L lv 0 osem (by decide : Pipeline.OwnSemFacts spec0 osem)
    ∅ others (Finset.empty_subset _) launch0.toP rfl (fun c => (bodyOb m c).loose)
    (fun _ => 0) O₀ (fun c => (owed_first m c).trans (zero_add _).symm) (fun c => owed_last m c) (fun _ => rfl)
    (fun c => (pdats m 0 c).share_full fun _ => rfl)
    (V₁ m) (V₂ m) (fun c b hb => V₂_ne m c b (others_ne b (Finset.mem_sdiff.mp hb).1))
    (Tk m) Yk (Xk m) Yk (hopen m) (hin m) (hout m)
    (fun c => by iintro H; imodintro; iexact H)
    (fun _ => 0)
    ⟨fun c w s => by rw [L_tc]; exact Finset.mem_singleton_self _, fun c w s => stage_low w s, fun c t g i h => cut m c t g i h⟩
    (fun _ => iprop(emp))
    (fun c w => arr_first m c w) (fun c w => arr_last m c w)

/-! ## The program as a host stretch and the region -/

/-- What a device holds beside its buffers up to the region. -/
def beside (c : Dev nD) : sProp 𝕄 := iprop(Tk m c ∗ (∃ r, prngReg c r) ∗ ow c (O₀ c))

/-- The host's reshapes touch the device's buffers only. -/
theorem ops_in : ∀ op ∈ (hostOps0 : List (HloOp τ sig (Elt F))), op.bufs ⊆ bufs := by
  rw [← List.forall_iff_forall_mem]
  refine ⟨?_, ?_, ?_⟩
  · show ({Proc.devRef .tc main_arg0, Proc.devRef .tc main_v1} : Finset (DevRef τ sig)) ⊆ bufs; decide
  · show ({Proc.devRef .tc main_arg2, Proc.devRef .tc main_v2} : Finset (DevRef τ sig)) ⊆ bufs; decide
  · show ({Proc.devRef .tc main_arg3, Proc.devRef .tc main_v3} : Finset (DevRef τ sig)) ⊆ bufs; decide

/-- The host's reshapes. -/
def seg0 : Pipeline.HostSeg (Name := ℕ) (U := UU) (pcfgs (F := F)) defs₀ 𝒱₀ L lv :=
  Pipeline.HostSeg.ofOps _ _ _ _ _ bufs hostOps0 ops_in (List.forall_iff_forall_mem.mp hostOps0_fresh) (V₀ m) (beside m)

def segs : List (Pipeline.Seg (pcfgs (F := F)) adm (pdats m) () defs₀ 𝒱₀ L lv) := [.host (seg0 m), .region (reg0 m)]

/-- The program is the host's reshapes and then the region. -/
theorem main_run (c : Dev nD) : main (F := F) c = Pipeline.Seg.run (segs m) :=
  main_segs adm (pdats m) () 𝒱₀ L lv (seg0 m) (reg0 m) rfl c

/-- A device's buffers: the windows' arrays, and the others. -/
theorem bufs_split (c : Dev nD) (W : Valuation τ sig (Elt F)) : (StableHlo.held (c : Thread nD τ) bufs W : sProp 𝕄)
    = iprop(StableHlo.held (c : Thread nD τ) (Pipeline.arrRefs spec0) W ∗ StableHlo.held (c : Thread nD τ) others W) :=
  StableHlo.held_sub_split (c : Thread nD τ) arr_sub W

/-- What the host leaves is what the region asks for. -/
theorem reg_pre (c : Dev nD) : iprop(StableHlo.held (c : Thread nD τ) bufs (V₁ m c) ∗ beside m c) ⊢ (reg0 m).pre c := by
  show _ ⊢ iprop(StableHlo.held (c.tc : Thread nD τ) (Pipeline.arrRefs (τ := τ) spec0) (V₁ m c) ∗ (∃ r, prngReg c r)
    ∗ (StableHlo.held (c.tc : Thread nD τ) others (V₁ m c) ∗ emp) ∗ Tk m c ∗ ∃ Wd, owes (c : Thread nD τ) (0 + O₀ c) Wd)
  rw [bufs_split, zero_add]
  unfold beside ow
  iintro ⟨⟨Ha, Ho⟩, HT, Hp, HO⟩
  isplitl [Ha]; · iexact Ha
  isplitl [Hp]; · iexact Hp
  isplitl [Ho]
  · isplitl [Ho]; · iexact Ho
    iempintro
  isplitl [HT]; · iexact HT
  iexact HO

/-- What the region leaves, as the device's buffers and its idle cells. -/
theorem reg_post (c : Dev nD) : (reg0 m).post c
    ⊢ iprop(StableHlo.held (c : Thread nD τ) bufs (V₂ m c) ∗ (semVal (barCell c) 0 ∗ ow c 0)) := by
  show iprop(StableHlo.held (c.tc : Thread nD τ) (Pipeline.arrRefs (τ := τ) spec0) (V₂ m c) ∗ (∃ r, prngReg c r)
    ∗ (StableHlo.held (c.tc : Thread nD τ) others (V₂ m c) ∗ emp) ∗ Yk c ∗ ∃ Wd, owes (c : Thread nD τ) (0 : CellTallies nD τ sig Unit) Wd) ⊢ _
  rw [bufs_split]
  unfold Yk ow
  iintro ⟨Ha, -, ⟨Ho, -⟩, Hb, HO⟩
  isplitl [Ha Ho]; · isplitl [Ha] <;> iassumption
  isplitl [Hb]; · iexact Hb
  iexact HO

/-! ## The tokens, dealt to the devices that spend them -/

def bartok : Dev nD × Bool ↪ GSem nD τ sig × ℕ × Bool :=
  ⟨fun cd => (barCell cd.1, 0, cd.2), fun _ _ h =>
    Prod.ext (congrArg (fun t : GSem nD τ sig × ℕ × Bool => t.1.1.1) h) (congrArg (fun t : GSem nD τ sig × ℕ × Bool => t.2.2) h)⟩
def cptok : Dev nD × Fin 12 ↪ GSem nD τ sig × ℕ × Bool :=
  ⟨fun ck => (scEmb ck, 0, true), fun _ _ h => scEmb.injective (congrArg (fun t : GSem nD τ sig × ℕ × Bool => t.1) h)⟩
/-- Every duty's token: two on a barrier cell, one on a copy's cell. -/
def alltoks : Finset (GSem nD τ sig × ℕ × Bool) := Finset.univ.map bartok ∪ Finset.univ.map cptok

/-- No copy's cell is the barrier. -/
theorem osem_ne_bar : ∀ k : Fin 12, osem k ≠ .reg barS := by decide
/-- The barrier cells are none of the copies' cells. -/
theorem cells_disjoint : Disjoint (barCells : Finset (GSem nD τ sig)) scCells := by
  rw [Finset.disjoint_left]
  rintro g h₁ h₂
  obtain ⟨c, -, rfl⟩ := Finset.mem_map.mp h₁
  obtain ⟨ck, -, h⟩ := Finset.mem_map.mp h₂
  exact osem_ne_bar ck.2 (congrArg Prod.snd h)
/-- The barrier's tokens are none of the copies' tokens. -/
theorem toks_disjoint : Disjoint (Finset.univ.map bartok) (Finset.univ.map cptok) := by
  rw [Finset.disjoint_left]
  rintro g h₁ h₂
  obtain ⟨cd, -, rfl⟩ := Finset.mem_map.mp h₁
  obtain ⟨ck, -, h⟩ := Finset.mem_map.mp h₂
  exact osem_ne_bar ck.2 (congrArg (fun t : GSem nD τ sig × ℕ × Bool => t.1.2) h)

/-- A product over the booleans, written out. -/
theorem two (Φ : Bool → sProp 𝕄) : bigSep Finset.univ Φ = iprop(Φ true ∗ Φ false) :=
  bigSep_univ_eq_bigSepL [true, false] (by decide) (by decide) Φ

/-- Each barrier token goes to the neighbour that signals it. -/
theorem bar_deal : (bigSep (Finset.univ.map bartok) fun x => (dutyTok ER x.1 x.2.1 x.2.2 : sProp 𝕄))
    = bigSep Finset.univ fun c : Dev nD => iprop(dutyTok ER (barCell (prv c)) 0 true ∗ dutyTok ER (barCell (nxt c)) 0 false) := by
  rw [bigSep_map, bigSep_univ_prod, bigSep_congr (fun c _ => two _), bigSep_sep', bigSep_sep']
  refine congrArg₂ _ ?_ ?_
  · exact bigSep_univ_equiv ring.symm (fun c : Dev nD => (dutyTok ER (barCell c) 0 true : sProp 𝕄))
  · exact bigSep_univ_equiv ring (fun c : Dev nD => (dutyTok ER (barCell c) 0 false : sProp 𝕄))

/-- Every copy of every device, carried to the device it goes to. -/
def hops : Dev nD × Fin 6 ≃ Dev nD × Fin 6 :=
  ⟨fun ci => (tgt ci.2 ci.1, ci.2), fun ci => (org ci.2 ci.1, ci.2), fun ci => Prod.ext (org_tgt ci.2 ci.1) rfl, fun ci => Prod.ext (tgt_org ci.2 ci.1) rfl⟩

/-- Each arrival token goes to the device the copy comes from. -/
theorem cp_deal : (bigSep (Finset.univ.map cptok) fun x => (dutyTok ER x.1 x.2.1 x.2.2 : sProp 𝕄))
    = bigSep Finset.univ fun c : Dev nD => bigSep Finset.univ fun i : Fin 6 =>
        iprop(dutyTok ER (sCell i c) 0 true ∗ dutyTok ER (vCell i (tgt i c)) 0 true) := by
  rw [bigSep_map, bigSep_univ_prod]
  refine (bigSep_congr (fun (c : Dev nD) _ => copies (F := F) fun sm => dutyTok ER ((c : Thread nD τ), sm) 0 true)).trans ?_
  refine (bigSep_univ_prod fun ci : Dev nD × Fin 6 => (iprop(dutyTok ER (sCell ci.2 ci.1) 0 true ∗ dutyTok ER (vCell ci.2 ci.1) 0 true) : sProp 𝕄)).symm.trans ?_
  refine Eq.trans ?_ (bigSep_univ_prod fun ci : Dev nD × Fin 6 => (iprop(dutyTok ER (sCell ci.2 ci.1) 0 true ∗ dutyTok ER (vCell ci.2 (tgt ci.2 ci.1)) 0 true) : sProp 𝕄))
  rw [bigSep_sep', bigSep_sep']
  exact congrArg _ (bigSep_univ_equiv hops (fun ci : Dev nD × Fin 6 => (dutyTok ER (vCell ci.2 ci.1) 0 true : sProp 𝕄)))

/-- The rights to open, copy by copy. -/
theorem open_deal : (bigSep scCells fun g => (openTok ER g : sProp 𝕄))
    = bigSep Finset.univ fun c : Dev nD => bigSep Finset.univ fun i : Fin 6 => iprop(openTok ER (sCell i c) ∗ openTok ER (vCell i c)) := by
  rw [bigSep_map, bigSep_univ_prod]
  exact bigSep_congr fun c _ => copies fun sm => openTok ER ((c : Thread nD τ), sm)

/-! ## The launch credit -/

/-- Credit for what each device owes to its next one, dealt to the debt's holder. -/
theorem deal_nxt (sm : SemLoc sig) (n : ℕ) (c : Dev nD) :
    (Pipeline.launchCred (fun d => tallyAt (((nxt d).tc : Thread nD τ), sm) () n) c : sProp 𝕄) ⊢ cred (tallyAt ((c.tc : Thread nD τ), sm) () n) :=
  Pipeline.launchCred_tallyAt sm nxt prv nxt_prv prv_nxt () n c
/-- Credit for what each device owes to its previous one, dealt to the debt's holder. -/
theorem deal_prv (sm : SemLoc sig) (n : ℕ) (c : Dev nD) :
    (Pipeline.launchCred (fun d => tallyAt (((prv d).tc : Thread nD τ), sm) () n) c : sProp 𝕄) ⊢ cred (tallyAt ((c.tc : Thread nD τ), sm) () n) :=
  Pipeline.launchCred_tallyAt sm prv nxt prv_nxt nxt_prv () n c

/-- What the others owe a device: two barrier units and the six copies' credits. -/
theorem creds (c : Dev nD) : (Pipeline.launchCred O₀ c : sProp 𝕄)
    ⊢ iprop(cred (tallyAt (barCell c) () 2) ∗ bigSep Finset.univ fun i : Fin 6 => cred (tallyAt (vCell i c) () N)) := by
  have e1 := Pipeline.launchCred_add (Name := ℕ) (U := UU) (Val := Elt F) (Lvl := ℕ) (fun d => Ocp d + tallyAt (barCell (nxt d)) () 1) (fun d => tallyAt (barCell (prv d)) () 1) c
  have e2 := Pipeline.launchCred_add (Name := ℕ) (U := UU) (Val := Elt F) (Lvl := ℕ) Ocp (fun d => tallyAt (barCell (nxt d)) () 1) c
  have e3 := Pipeline.launchCred_add (Name := ℕ) (U := UU) (Val := Elt F) (Lvl := ℕ) (fun d => ((O45 d + tallyAt (vCell 3 (prv d)) () N) + tallyAt (vCell 1 (nxt d)) () N) + tallyAt (vCell 2 (prv d)) () N) (fun d => tallyAt (vCell 0 (nxt d)) () N) c
  have e4 := Pipeline.launchCred_add (Name := ℕ) (U := UU) (Val := Elt F) (Lvl := ℕ) (fun d => (O45 d + tallyAt (vCell 3 (prv d)) () N) + tallyAt (vCell 1 (nxt d)) () N) (fun d => tallyAt (vCell 2 (prv d)) () N) c
  have e5 := Pipeline.launchCred_add (Name := ℕ) (U := UU) (Val := Elt F) (Lvl := ℕ) (fun d => O45 d + tallyAt (vCell 3 (prv d)) () N) (fun d => tallyAt (vCell 1 (nxt d)) () N) c
  have e6 := Pipeline.launchCred_add (Name := ℕ) (U := UU) (Val := Elt F) (Lvl := ℕ) O45 (fun d => tallyAt (vCell 3 (prv d)) () N) c
  have e7 := Pipeline.launchCred_add (Name := ℕ) (U := UU) (Val := Elt F) (Lvl := ℕ) (fun d => tallyAt (vCell 4 (nxt d)) () N) (fun d => tallyAt (vCell 5 (prv d)) () N) c
  refine (Entails.of_eq e1).trans ?_
  refine (sep_mono_left (Entails.of_eq e2)).trans ?_
  refine (sep_mono_left (sep_mono_left (Entails.of_eq e3))).trans ?_
  rw [e4, e5, e6, show (Pipeline.launchCred O45 c : sProp 𝕄) = _ from e7, six]
  iintro ⟨⟨⟨⟨⟨⟨⟨C4, C5⟩, C3⟩, C1⟩, C2⟩, C0⟩, Bn⟩, Bp⟩
  isplitl [Bn Bp]
  · rw [show (2 : ℕ) = 1 + 1 from rfl, ← tallyAt_add]
    iapply (cred_add _ _).2
    isplitl [Bn]; · iapply (deal_nxt (.reg barS) 1 c); iexact Bn
    iapply (deal_prv (.reg barS) 1 c); iexact Bp
  isplitl [C0]; · iapply (deal_nxt (.dma (vS 0)) N c); iexact C0
  isplitl [C1]; · iapply (deal_nxt (.dma (vS 1)) N c); iexact C1
  isplitl [C2]; · iapply (deal_prv (.dma (vS 2)) N c); iexact C2
  isplitl [C3]; · iapply (deal_prv (.dma (vS 3)) N c); iexact C3
  isplitl [C4]; · iapply (deal_nxt (.dma (vS 4)) N c); iexact C4
  iapply (deal_prv (.dma (vS 5)) N c); iexact C5

/-! ## The launch -/

/-- The launch's ghost element: the pipeline library's and the ring's. -/
def u₀ : UU :=
  (initOf (Pipeline.cells (Pipeline.pin (pcfgs (F := F)) adm) cellOf_inj) (Pipeline.launchToks (Pipeline.pin (pcfgs (F := F)) adm) cellOf_inj),
    launchOf barCells scCells alltoks)

/-- Something held once, parked on device `c₀`. -/
def parked (c₀ : Dev nD) (X : sProp 𝕄) (c : Dev nD) : sProp 𝕄 := if c = c₀ then X else iprop(emp)
/-- What is parked at one device is what is held. -/
theorem bigSep_parked (c₀ : Dev nD) (X : sProp 𝕄) : bigSep Finset.univ (parked c₀ X) = X := by
  rw [bigSep_univ_at _ c₀, bigSep_congr (s := Finset.univ.erase c₀) (Ψ := fun _ => (BI.emp : sProp 𝕄))
      fun c hc => by unfold parked; rw [if_neg (Finset.ne_of_mem_erase hc)]; rfl, BI.bigSep_emp_const]
  unfold parked; rw [if_pos rfl]
  exact BI.equiv_iff.mp sep_emp
def G : Dev nD → sProp 𝕄 := parked 0 (BI.own (ER (launchOf barCells scCells alltoks)))

/-- A device's share of the ghost state. -/
def dealt (c : Dev nD) : sProp 𝕄 :=
  iprop(atPos ER (barCell c) 0 ∅ 0 ∗ (bigSep Finset.univ fun i : Fin 6 => iprop(openTok ER (sCell i c) ∗ openTok ER (vCell i c)))
    ∗ (dutyTok ER (barCell (prv c)) 0 true ∗ dutyTok ER (barCell (nxt c)) 0 false)
    ∗ bigSep Finset.univ fun i : Fin 6 => iprop(dutyTok ER (sCell i c) 0 true ∗ dutyTok ER (vCell i (tgt i c)) 0 true))
/-- What else it holds at launch. -/
def brought (c : Dev nD) : sProp 𝕄 :=
  iprop(StableHlo.held (c : Thread nD τ) bufs (V₀ m c)
    ∗ (cred (tallyAt (barCell c) () 2) ∗ bigSep Finset.univ fun i : Fin 6 => cred (tallyAt (vCell i c) () N))
    ∗ owes (c : Thread nD τ) (O₀ c) ∅ ∗ ∃ r, prngReg c r)

abbrev T₀ (c : Dev nD) : sProp 𝕄 := iprop(StableHlo.held (c : Thread nD τ) bufs (V₀ m c) ∗ beside m c)
abbrev Tₙ (c : Dev nD) : sProp 𝕄 := iprop(StableHlo.held (c : Thread nD τ) bufs (V₂ m c) ∗ semVal (barCell c) 0)

/-- What a device is dealt and what it brings make its first state. -/
theorem T₀_intro (κ : GSem nD τ sig → ℕ) (c : Dev nD) : iprop(recs (blocks m) κ ∗ (dealt c ∗ brought m c)) ⊢ T₀ m c := by
  unfold dealt brought T₀ beside Tk barRes copyTk ow
  iintro ⟨#HR, ⟨Hat, Hop, ⟨Hp, Hn⟩, Hd⟩, Hh, ⟨HB, HC⟩, HO, Hr⟩
  isplitl [Hh]; · iexact Hh
  isplitr [Hr HO]
  · isplitr; · iexists κ; iexact HR
    isplitl [Hp Hn Hat HB]
    · isplitl [Hp]; · iexact Hp
      isplitl [Hn]; · iexact Hn
      isplitl [Hat] <;> iassumption
    iapply bigSep_pair
    isplitl [Hop]; · iexact Hop
    iapply bigSep_pair
    isplitl [Hd] <;> iassumption
  isplitl [Hr]; · iexact Hr
  iexists ∅; iexact HO

/-- What a device has at launch is what it brings, its barrier cell and its ghost state. -/
theorem core_launch (c : Dev nD) : iprop(unscopedBufs c (fun b => m ((c : Thread nD τ).loc b)) ∗ unscopedSems0 c
      ∗ owes (c : Thread nD τ) (O₀ c) ∅ ∗ Pipeline.launchCred O₀ c ∗ prngReg c (ρ c) ∗ G c)
    ⊢ (iprop(brought m c ∗ (semVal (barCell c) 0 ∗ G c)) : sProp 𝕄) := by
  rw [show unscopedBufs c (fun b => m ((c : Thread nD τ).loc b)) = StableHlo.held (c : Thread nD τ) bufs (V₀ m c) from bufs_held c (V₀ m c), sems_eq]
  unfold brought
  iintro ⟨Hh, Hs, HO, Hcr, Hp, HG⟩
  isplitl [Hh Hcr HO Hp]
  · isplitl [Hh]; · iexact Hh
    isplitl [Hcr]; · iapply (creds c); iexact Hcr
    isplitl [HO]; · iexact HO
    iexists (ρ c); iexact Hp
  isplitl [Hs] <;> iassumption

/-- From the launch's holdings every device gets what it starts with. -/
theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  iintro ⟨H, -⟩
  ihave H1 := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop(brought m c ∗ (semVal (barCell c) 0 ∗ G c)) : sProp 𝕄) from bigSep_mono fun c _ => core_launch m ρ c) $$ H
  ihave H2 := bigSep_unpair $$ H1; icases H2 with ⟨HB, H3⟩
  ihave H4 := bigSep_unpair $$ H3; icases H4 with ⟨Hv, HG⟩
  ihave Hu := (show bigSep Finset.univ (G (F := F)) ⊢ BI.own (ER (launchOf barCells scCells alltoks)) from
    Entails.of_eq (bigSep_parked 0 _)) $$ HG
  imod (Rounds.fund_launch ER (Rd (blocks m)) cells_disjoint (fun g _ h => h) alltoks) $$ [Hv Hu] with ⟨%κ, -, #Hinv, #Hr, Hat, Hopen, Htok⟩
  · isplitl [Hv]
    · iapply (Entails.of_eq (bigSep_map (s := Finset.univ) barEmb (Φ := fun g : GSem nD τ sig => (semVal g 0 : sProp 𝕄))).symm); iexact Hv
    · iexact Hu
  imodintro
  iapply (bigSep_with_persistent (R := recs (blocks m) κ) (Φ := fun c => iprop(dealt c ∗ brought m c)) fun c _ => T₀_intro m κ c)
  isplitr
  · unfold recs
    isplitr; · iexact Hinv
    iexact Hr
  iapply bigSep_pair
  isplitr [HB]
  · ihave Ht := (show (bigSep alltoks fun x => (dutyTok ER x.1 x.2.1 x.2.2 : sProp 𝕄))
        ⊢ iprop((bigSep (Finset.univ.map bartok) fun x => dutyTok ER x.1 x.2.1 x.2.2) ∗ bigSep (Finset.univ.map cptok) fun x => dutyTok ER x.1 x.2.1 x.2.2)
      from Entails.of_eq (bigSep_union toks_disjoint)) $$ Htok
    icases Ht with ⟨Htb, Htc⟩
    unfold dealt
    iapply bigSep_pair
    isplitl [Hat]
    · iapply (Entails.of_eq (bigSep_map (s := Finset.univ) barEmb (Φ := fun g : GSem nD τ sig => (atPos ER g 0 ∅ 0 : sProp 𝕄)))); iexact Hat
    iapply bigSep_pair
    isplitl [Hopen]; · iapply (Entails.of_eq open_deal); iexact Hopen
    iapply bigSep_pair
    isplitl [Htb]; · iapply (Entails.of_eq bar_deal); iexact Htb
    iapply (Entails.of_eq cp_deal); iexact Htc
  · iexact HB

/-! ## The run -/

/-- The one cell that lives outside the region is the barrier's. -/
theorem lone_cell : ∀ sm : SemLoc sig, sm.isScoped .tc = false → sm = .reg barS := by decide

/-- The buffers of a device one by one. -/
theorem bufs_list (c : Dev nD) (W : Valuation τ sig (Elt F)) : (StableHlo.held (c : Thread nD τ) bufs W : sProp 𝕄)
    = iprop(bf main_arg0 c (W main_arg0) ∗ bf main_arg1 c (W main_arg1) ∗ bf main_arg2 c (W main_arg2) ∗ bf main_arg3 c (W main_arg3)
      ∗ bf main_arg4 c (W main_arg4) ∗ bf main_v1 c (W main_v1) ∗ bf main_v2 c (W main_v2) ∗ bf main_v3 c (W main_v3) ∗ bf main_v4 c (W main_v4)) := by
  unfold StableHlo.held
  rw [bigSep_eq_bigSepL_of_eq [Proc.devRef .tc main_arg0, Proc.devRef .tc main_arg1, Proc.devRef .tc main_arg2, Proc.devRef .tc main_arg3,
    Proc.devRef .tc main_arg4, Proc.devRef .tc main_v1, Proc.devRef .tc main_v2, Proc.devRef .tc main_v3, Proc.devRef .tc main_v4] (by decide) (by decide)]
  rfl

/-- What a final state shows of device `c`. -/
def shown (c : Dev nD) (s : MemSt nD τ sig (Elt F)) : Prop :=
  s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3)
    ∧ s.mem ((c : Thread nD τ).loc main_arg4) = m ((c : Thread nD τ).loc main_arg4)
    ∧ s.mem ((c : Thread nD τ).loc main_v4) = resC m c

set_option backward.isDefEq.respectTransparency.types false in
/-- From any memory with zero counters the program on the four devices ends, its arguments unchanged, each device's result
    holding what its kernel computes of the blocks passed round, every counter at zero. -/
theorem run_main : θ_run defs (onTc (τ := τ) (main (F := F))) ⟨m, fun _ => 0, ρ⟩
    (fun r => (∀ c : Dev nD, shown m c r.2) ∧ r.2.sem = fun _ => 0) :=
  Pipeline.θ_run_regions_kit_sems (pcfgs (F := F)) adm (pdats m) () cellOf_inj EP defs₀ 𝒱₀ L lv m ρ main (segs m)
    (fun c Q => by rw [main_run m c])
    (by simp only [segs, Pipeline.Seg.pipes_host, Pipeline.Seg.pipes_region, Pipeline.Seg.pipes_nil]; decide)
    (O₀ := O₀) (hL := L_of_ne) (G := G) (u₀ := u₀)
    (hu₀ := by
      unfold u₀ G
      iintro Hu
      ihave H := (ownU_pair _ _) $$ Hu
      icases H with ⟨HP, HX⟩
      imodintro
      isplitl [HP]; · iexact HP
      rw [bigSep_parked]; iexact HX)
    (T₀ := T₀ m) (Tₙ := Tₙ m)
    (hch := by
      refine ⟨fun c => .rfl, fun c => reg_pre m c, fun c => (reg_post m c).trans ?_⟩
      unfold ow
      iintro ⟨Hh, Hb, HO⟩
      isplitr [HO]
      · isplitl [Hh] <;> iassumption
      · iexact HO)
    (hinit := init m ρ)
    (QY := fun c s => shown m c s ∧ s.sem (barCell c) = 0)
    (hfin := fun c s' => by
      dsimp only [Tₙ]; rw [bufs_list]
      iintro ⟨⟨⟨H0, H1, H2, H3, H4, -, -, -, H5⟩, Hb⟩, HSI⟩
      icombine HSI H0 gives %h0
      icombine HSI H1 gives %h1
      icombine HSI H2 gives %h2
      icombine HSI H3 gives %h3
      icombine HSI H4 gives %h4
      icombine HSI H5 gives %h5
      icombine HSI Hb gives %hb
      imodintro
      isplitr
      · ipureintro
        refine ⟨⟨(Buf.eq_of_forall_mem_univ h0).trans ?_, (Buf.eq_of_forall_mem_univ h1).trans ?_, (Buf.eq_of_forall_mem_univ h2).trans ?_,
          (Buf.eq_of_forall_mem_univ h3).trans ?_, (Buf.eq_of_forall_mem_univ h4).trans ?_, (Buf.eq_of_forall_mem_univ h5).trans ?_⟩, by simpa using hb⟩
        · exact (V₂_ne m c _ (by decide)).trans (V_main_arg0 m c)
        · exact (V₂_ne m c _ (by decide)).trans (V_main_arg1 m c)
        · exact (V₂_ne m c _ (by decide)).trans (V_main_arg2 m c)
        · exact (V₂_ne m c _ (by decide)).trans (V_main_arg3 m c)
        · exact (V₂_ne m c _ (by decide)).trans (V_main_arg4 m c)
        · exact V₂_res m c
      iexact HSI)
    (hQ := fun s h hs => ⟨fun c => (h c).1,
      sem_eq_zero hs fun c sm hsm => by
        obtain rfl := lone_cell sm hsm
        exact (h c).2⟩)

end Cert.Ring

end
-- ==== Proof.Frames.lean ====
/-
The frames of the two kernel programs, from the one run.
-/
module

public import proofs.«01_k».proof.Proof.Launch
public import proofs.«01_k».proof.Proof.Gen.Kernel
public import proofs.«01_k».proof.Defs

@[expose] public section

noncomputable section

namespace Cert.Ring

open Idealize.ShloMosaic Idealize.SL.Sem Cert.KernelIdeal Cert.KernelIdeal.Gen
open Idealize.ShloMosaic.TcCoe

/-- At the chip's words a named constant is the word printed. -/
@[reducible] instance bitsNamed : Named Bits where
  named _ _ φ b := Scalar.ofBits φ b

/-- The idealized kernel leaves its arguments and every counter as they were. -/
theorem frame_ideal : Cert.quiescent_KernelIdeal (hKernelIdeal := Cert.KernelIdeal.Gen.facts) := fun m ρ _ =>
  (θ_run (Cert.KernelIdeal.defs (F := Ideal)) _ _).mono
    (fun _ h => ⟨fun c => ⟨(h.1 c).1, (h.1 c).2.1, (h.1 c).2.2.1, (h.1 c).2.2.2.1, (h.1 c).2.2.2.2.1⟩, h.2⟩)
    (run_main (F := Ideal) m ρ)

/-- What the chip's run keeps: the arguments and the counters. -/
theorem frame_bits (m : (ℓ : Loc nD τ sig) → Buf (Elt Bits) ℓ) (ρ : Dev nD → PrngReg) :
    θ_run (Cert.KernelIdeal.defs (F := Bits)) (onTc (τ := τ) (Cert.KernelIdeal.main (F := Bits))) ⟨m, fun _ => 0, ρ⟩
      (fun r => (∀ c : Dev nD,
        r.2.mem ((c.tc : Thread nD τ).loc main_arg0) = m ((c.tc : Thread nD τ).loc main_arg0) ∧
        r.2.mem ((c.tc : Thread nD τ).loc main_arg1) = m ((c.tc : Thread nD τ).loc main_arg1) ∧
        r.2.mem ((c.tc : Thread nD τ).loc main_arg2) = m ((c.tc : Thread nD τ).loc main_arg2) ∧
        r.2.mem ((c.tc : Thread nD τ).loc main_arg3) = m ((c.tc : Thread nD τ).loc main_arg3) ∧
        r.2.mem ((c.tc : Thread nD τ).loc main_arg4) = m ((c.tc : Thread nD τ).loc main_arg4)) ∧ r.2.sem = fun _ => 0) :=
  (θ_run _ _ _).mono
    (fun _ h => ⟨fun c => ⟨(h.1 c).1, (h.1 c).2.1, (h.1 c).2.2.1, (h.1 c).2.2.2.1, (h.1 c).2.2.2.2.1⟩, h.2⟩)
    (run_main (F := Bits) m ρ)

set_option maxRecDepth 100000 in
set_option smartUnfolding false in
/-- The kernel as printed likewise: its text is the idealized one's, the named constant read as its word. -/
theorem frame_kernel : Cert.quiescent_Kernel (hKernel := Cert.Kernel.Gen.facts) := fun m ρ _ => frame_bits m ρ

end Cert.Ring

end
-- ==== Proof.Maths.lean ====
module

public import Idealize.ShloMosaic.Lib.Pointwise
public import Idealize.ShloMosaic.PureOps.Ideal.Laws

@[expose] public section

noncomputable section

namespace Cert.Attn

open Idealize.ShloMosaic

/-! ## The weights of one query row -/

/-- Row `q` attends key `k`: their blocks of 64 are the same, or the key is in the first block, or the blocks' sum is a
    multiple of three. -/
def keep (q k : ℕ) : Prop := q / 64 = k / 64 ∨ k / 64 = 0 ∨ (q / 64 + k / 64) % 3 = 0

instance (q k : ℕ) : Decidable (keep q k) := inferInstanceAs (Decidable (_ ∨ _ ∨ _))

/-- Every row attends the first key. -/
theorem keep_zero (q : ℕ) : keep q 0 := .inr (.inl rfl)

/-- The exponential of a score, nothing for a pair left out. -/
def ev (q : ℕ) (s : Fin 512 → ℝ) (k : Fin 512) : ℝ := if keep q k.val then Real.exp (s k) else 0

/-- The weight of a key: its exponential over the row's sum. -/
def wt (q : ℕ) (s : Fin 512 → ℝ) (k : Fin 512) : ℝ := ev q s k / ∑ j, ev q s j

/-- An unnormalised weight is not negative. -/
theorem ev_nonneg (q : ℕ) (s : Fin 512 → ℝ) (k : Fin 512) : 0 ≤ ev q s k := by
  unfold ev
  split
  · exact (Real.exp_pos _).le
  · exact le_rfl

/-- A row's sum of exponentials is positive. -/
theorem ev_sum_pos (q : ℕ) (s : Fin 512 → ℝ) : 0 < ∑ j, ev q s j := by
  refine Finset.sum_pos' (fun j _ => ev_nonneg q s j) ⟨0, Finset.mem_univ _, ?_⟩
  have e : ev q s 0 = Real.exp (s 0) := if_pos (keep_zero q)
  rw [e]
  exact Real.exp_pos _

/-- A sum of reals, read in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite nonnegative factor goes into a sum. -/
theorem sum_mul_coe {ι : Type} (s : Finset ι) (f : ι → EReal) (r : ℝ) (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha, ← ih]
    exact EReal.right_distrib_of_nonneg_of_ne_top (by exact_mod_cast hr) (EReal.coe_ne_top r) _ _

/-- A row's scores with the pairs left out at −∞. -/
def masked (q : ℕ) (s : Fin 512 → ℝ) (k : Fin 512) : EReal := if keep q k.val then (s k : EReal) else ⊥

/-- The largest of a row's masked scores is a real number. -/
theorem max_masked (q : ℕ) (s : Fin 512 → ℝ) : ∃ μ : ℝ, Finset.fold max ⊥ (masked q s) Finset.univ = (μ : EReal) := by
  have hs : Finset.fold max ⊥ (masked q s) Finset.univ = Finset.univ.sup (masked q s) := rfl
  obtain ⟨k, -, hk⟩ := Finset.exists_mem_eq_sup (Finset.univ : Finset (Fin 512)) Finset.univ_nonempty (masked q s)
  rw [hs, hk]
  by_cases h : keep q k.val
  · exact ⟨s k, if_pos h⟩
  · exfalso
    have h0 : masked q s 0 ≤ Finset.univ.sup (masked q s) := Finset.le_sup (Finset.mem_univ 0)
    have e0 : masked q s 0 = (s 0 : EReal) := if_pos (keep_zero q)
    have ek : masked q s k = ⊥ := if_neg h
    rw [hk, ek, e0] at h0
    exact EReal.coe_ne_bot _ (le_bot_iff.mp h0)

/-- The exponential of a masked score less a real number. -/
theorem exp_masked_sub (q : ℕ) (s : Fin 512 → ℝ) (μ : ℝ) (k : Fin 512) :
    Ideal.exp (masked q s k - (μ : EReal)) = ((ev q s k * Real.exp (-μ) : ℝ) : EReal) := by
  unfold masked ev
  split
  · rw [← EReal.coe_sub, Ideal.exp_coe, sub_eq_add_neg, Real.exp_add]
  · rw [EReal.bot_sub, Ideal.exp_bot, zero_mul, EReal.coe_zero]

/-- The plain softmax: the exponentials of the scores less their largest, over their sum, are the weights. -/
theorem softmax_plain (q : ℕ) (s : Fin 512 → ℝ) (k : Fin 512) :
    Ideal.div (Ideal.exp (masked q s k - Finset.fold max ⊥ (masked q s) Finset.univ))
        (∑ j, Ideal.exp (masked q s j - Finset.fold max ⊥ (masked q s) Finset.univ)) = (wt q s k : EReal) := by
  obtain ⟨μ, hμ⟩ := max_masked q s
  rw [hμ]
  simp only [exp_masked_sub]
  have hp : (0 : ℝ) < ∑ j, ev q s j * Real.exp (-μ) := by
    rw [← Finset.sum_mul]
    exact mul_pos (ev_sum_pos q s) (Real.exp_pos _)
  rw [← coe_sum, Ideal.div_coe hp.ne', ← EReal.coe_mul]
  congr 1
  rw [← Finset.sum_mul] at hp ⊢
  unfold wt
  have h1 := (ev_sum_pos q s).ne'
  have h2 := (Real.exp_pos (-μ)).ne'
  field_simp

/-- The exponential of a score with the mask's number added. -/
theorem exp_add_mask (q : ℕ) (s : Fin 512 → ℝ) (k : Fin 512) :
    Ideal.exp ((s k : EReal) + (if keep q k.val then 0 else ⊥)) = (ev q s k : EReal) := by
  unfold ev
  split
  · rw [add_zero, Ideal.exp_coe]
  · rw [EReal.add_bot, Ideal.exp_bot, EReal.coe_zero]

/-- The kernel's order of the same: the values weighed by the bare exponentials, then scaled by the sum's inverse. -/
theorem softmax_late (q : ℕ) (s : Fin 512 → ℝ) (v : Fin 512 → EReal) :
    (∑ k, (ev q s k : EReal) * v k) * Ideal.div 1 (∑ j, (ev q s j : EReal)) = ∑ k, (wt q s k : EReal) * v k := by
  have hp := ev_sum_pos q s
  rw [← coe_sum, Ideal.div_coe hp.ne', one_mul, sum_mul_coe _ _ _ (one_div_nonneg.mpr hp.le)]
  refine Finset.sum_congr rfl fun k _ => ?_
  rw [mul_right_comm, ← EReal.coe_mul, wt, one_div, div_eq_mul_inv]

/-! ## Sums in four blocks -/

/-- A sum over 2048 is the sum over four blocks of 512. -/
theorem sum_blocks (f : Fin 2048 → EReal) : ∑ n, f n = ∑ s : Fin 4, ∑ n : Fin 512, f ⟨512 * s.val + n.val, by omega⟩ := by
  rw [← Fintype.sum_prod_type']
  refine (Fintype.sum_equiv (finProdFinEquiv (m := 4) (n := 512)) _ _ fun p => ?_).symm
  refine congrArg f (Fin.ext ?_)
  show 512 * p.1.val + p.2.val = p.2.val + 512 * p.1.val
  omega

/-- Four terms met in the order of a device's arrivals. -/
theorem sum_rot (g : Fin 4 → EReal) (c : Fin 4) (r : ℕ → Fin 4) (hr : ∀ k, r k = ⟨(c.val + k) % 4, Nat.mod_lt _ (by decide)⟩) :
    g (r 0) + g (r 3) + g (r 1) + g (r 2) = ∑ s, g s := by
  rw [Fin.sum_univ_four, hr, hr, hr, hr]
  match c with
  | 0 => show g 0 + g 3 + g 1 + g 2 = _; ac_rfl
  | 1 => show g 1 + g 0 + g 2 + g 3 = _; ac_rfl
  | 2 => show g 2 + g 1 + g 3 + g 0 = _; ac_rfl
  | 3 => show g 3 + g 2 + g 0 + g 1 = _; ac_rfl

/-! ## The function both programs compute -/

/-- A score: a query row's projection against a key, scaled. -/
def score (x : (⟨3, ![2, 2048, 768]⟩ : Shape).Idx → EReal) (wq : (⟨2, ![768, 2048]⟩ : Shape).Idx → EReal)
    (K : (⟨4, ![2, 512, 32, 64]⟩ : Shape).Idx → EReal) (b : Fin 2) (h : Fin 32) (q : Fin 2048) (k : Fin 512) : ℝ :=
  (∑ d : Fin 64, (∑ t : Fin 768, (x (ix3 b q t)).toReal * (wq (ix2 t ⟨h.val * 64 + d.val, by omega⟩)).toReal) * (K (ix4 b k h d)).toReal) * (1 / 8)

/-- The weighted values of a query row, heads side by side. -/
def mixed (x : (⟨3, ![2, 2048, 768]⟩ : Shape).Idx → EReal) (wq : (⟨2, ![768, 2048]⟩ : Shape).Idx → EReal)
    (K V : (⟨4, ![2, 512, 32, 64]⟩ : Shape).Idx → EReal) (b : Fin 2) (q n : Fin 2048) : EReal :=
  ∑ k, (wt q.val (score x wq K b ⟨n.val / 64, by omega⟩ q) k : EReal) * V (ix4 b k ⟨n.val / 64, by omega⟩ ⟨n.val % 64, Nat.mod_lt _ (by decide)⟩)

/-- The result: the weighted values projected. -/
def result (x : (⟨3, ![2, 2048, 768]⟩ : Shape).Idx → EReal) (wq : (⟨2, ![768, 2048]⟩ : Shape).Idx → EReal)
    (K V : (⟨4, ![2, 512, 32, 64]⟩ : Shape).Idx → EReal) (wo : (⟨2, ![2048, 768]⟩ : Shape).Idx → EReal) (b : Fin 2) (q : Fin 2048) (j : Fin 768) : EReal :=
  ∑ n : Fin 2048, mixed x wq K V b q n * wo (ix2 n j)

/-- Neither infinity. -/
def IsReal (a : EReal) : Prop := a ≠ ⊤ ∧ a ≠ ⊥

/-- A finite extended real is the real that it is read as. -/
theorem IsReal.coe {a : EReal} (h : IsReal a) : ((a.toReal : ℝ) : EReal) = a := EReal.coe_toReal h.1 h.2

/-- A number whose magnitude is below +∞ is neither infinity. -/
theorem fin_of_abs_lt {a : EReal} (h : max a (-a) < ⊤) : IsReal a := by
  refine ⟨fun e => ?_, fun e => ?_⟩ <;> rw [e] at h <;> simp at h

/-- The bits of one eighth. -/
theorem eighth : Ideal.ofBits .f32 0x3E000000#32 = ((1 / 8 : ℝ) : EReal) := by
  simp [Ideal.ofBits, Ideal.ieee]
  rw [← EReal.coe_mul]
  norm_num

/-- The bits of −∞. -/
theorem negInf : Ideal.ofBits .f32 0xFF800000#32 = ⊥ := by
  simp [Ideal.ofBits, Ideal.ieee]

/-- The bits of +∞. -/
theorem posInf : Ideal.ofBits .f32 0x7F800000#32 = ⊤ := by
  simp [Ideal.ofBits, Ideal.ieee]

end Cert.Attn

end
-- ==== Proof.KerValue.lean ====
module

public import proofs.«01_k».proof.Proof.Region
public import proofs.«01_k».proof.Proof.Maths
public import Idealize.ShloMosaic.Lib.Pointwise

@[expose] public section

set_option maxRecDepth 16384

noncomputable section

namespace Cert.Ring

open Cert.KernelIdeal Cert.KernelIdeal.Gen
open Idealize.ShloMosaic Idealize.ShloMosaic.TcCoe

/-! ## The mask -/

/-- The first word of a device's query blocks. -/
def qBase (c : Dev nD) : BitVec 32 := Scalar.muli (Scalar.remsi (Scalar.divsi (Dev.word c) 1#32) 4#32) 8#32

/-- The word of a query row's block. -/
def qWords (c : Dev nD) : IVec S512x512 32 :=
  k0_pay16 (qBase c) (iota .tc S512x512 32 [0] iota_S512x512_d0_w32) 64#32 k0_pay14 k0_pay15

/-- It is the row's block in the whole sequence. -/
theorem qWords_at (c : Dev nD) (r k : Fin 512) : qWords c (ix2 r k) = BitVec.ofNat 32 (8 * c.val + r.val / 64) := by
  have h : ∀ (c : Dev nD) (r : Fin 512), qWords c (ix2 r 0) = BitVec.ofNat 32 (8 * c.val + r.val / 64) := by decide +kernel
  exact (show qWords c (ix2 r k) = qWords c (ix2 r 0) from rfl).trans (h c r)

/-- The word of a key's block. -/
theorem kWords_at (r k : Fin 512) : k0_pay17 (ix2 r k) = BitVec.ofNat 32 (k.val / 64) := by
  have h : ∀ k : Fin 512, k0_pay17 (ix2 0 k) = BitVec.ofNat 32 (k.val / 64) := by decide +kernel
  exact (show k0_pay17 (ix2 r k) = k0_pay17 (ix2 0 k) from rfl).trans (h k)

/-- The mask's bit of two blocks' words, as the kernel takes it. -/
def pairBit (a b : BitVec 32) : BitVec 1 :=
  have n : BitVec 32 := Scalar.select (Scalar.cmpi .eq 3#32 0#32) 1#32 3#32
  have s : BitVec 32 := Scalar.remsi (Scalar.addi a b) n
  Scalar.ori (Scalar.ori (Scalar.cmpi .eq a b) (Scalar.cmpi .eq b 0#32))
    (Scalar.cmpi .eq (Scalar.select (Scalar.andi (Scalar.xori (Scalar.cmpi .slt s 0#32) (Scalar.cmpi .slt n 0#32)) (Scalar.cmpi .ne s 0#32)) (Scalar.addi s n) s) 0#32)

/-- The mask's bit of a pair of block numbers, by arithmetic on the numbers. -/
theorem pairBit_ofNat : ∀ (a : Fin 32) (b : Fin 8), pairBit (BitVec.ofNat 32 a.val) (BitVec.ofNat 32 b.val)
    = BitVec.ofBool (decide (a.val = b.val ∨ b.val = 0 ∨ (a.val + b.val) % 3 = 0)) := by decide +kernel

/-- The mask's number: zero where the pair attends, −∞ elsewhere. -/
theorem negC_at (c : Dev nD) (r k : Fin 512) :
    negC (F := Ideal) c (ix2 r k) = if Attn.keep (512 * c.val + r.val) k.val then 0 else ⊥ := by
  have h : negC (F := Ideal) c (ix2 r k)
      = Scalar.select (pairBit (qWords c (ix2 r k)) (k0_pay17 (ix2 r k))) (Ideal.ofBits .f32 0x00000000#32) ⊥ := rfl
  have hc : c.val < 4 := c.isLt
  have hq : (512 * c.val + r.val) / 64 = 8 * c.val + r.val / 64 := by omega
  have e : decide (Attn.keep (512 * c.val + r.val) k.val)
      = decide (8 * c.val + r.val / 64 = k.val / 64 ∨ k.val / 64 = 0 ∨ (8 * c.val + r.val / 64 + k.val / 64) % 3 = 0) :=
    decide_eq_decide.mpr (by unfold Attn.keep; rw [hq])
  rw [h, qWords_at, kWords_at]
  refine (congrArg (fun b => Scalar.select b _ _) ((pairBit_ofNat ⟨8 * c.val + r.val / 64, by omega⟩ ⟨k.val / 64, by omega⟩).trans (congrArg BitVec.ofBool e.symm))).trans ?_
  by_cases hk : Attn.keep (512 * c.val + r.val) k.val
  · rw [if_pos hk, decide_eq_true hk]
    exact Ideal.ofBits_zero_f32
  · rw [if_neg hk, decide_eq_false hk]
    rfl

/-! ## One head -/

/-- A query row's projection, scaled before it is projected. -/
theorem proj_at (x : Vec Ideal S1024x768 .f32) (w : Vec Ideal S768x512 .bf16) (r : Fin 1024) (n : Fin 512) :
    k0_pay20 (F := Ideal) (k0_pay13 x) w (ix2 r n) = ∑ t : Fin 768, x (ix2 r t) * ((1 / 8 : ℝ) : EReal) * w (ix2 t n) := by
  pointwise [k0_pay20, k0_pay13]
  rw [Attn.eighth]

/-- The kernel's softmax of one head: the values under the weights of its scores. -/
theorem soft_at (neg : FVec Ideal S512x512 .f32) (qh : FVec Ideal S512x64 .bf16) (K V : Vec Ideal S1x512x64 .bf16) (r : Fin 512) (d : Fin 64) (q : ℕ)
    (sc : Fin 512 → ℝ) (hneg : ∀ k : Fin 512, neg (ix2 r k) = if Attn.keep q k.val then 0 else ⊥)
    (hsc : ∀ k : Fin 512, ∑ e : Fin 64, qh (ix2 r e) * K (ix3 0 k e) = (sc k : EReal)) :
    k0_pay29 (F := Ideal) neg qh K V (ix2 r d) = ∑ k : Fin 512, (Attn.wt q sc k : EReal) * V (ix3 0 k d) := by
  pointwise [k0_pay29]
  simp only [hneg, hsc, Attn.exp_add_mask]
  exact Attn.softmax_late q sc _

/-- A head's columns of the projection, read at an index. -/
theorem cols_at (qg : FVec Ideal S1024x512 .bf16) (b : Fin 2) (h : Fin 8) (r : Fin 512) (e : Fin 64) :
    extractStridedSlice S512x64 ![512 * b.val, 64 * h.val] qg (slices_q b h) (ix2 r e) = qg (ix2 ⟨512 * b.val + r.val, by omega⟩ ⟨64 * h.val + e.val, by omega⟩) := by
  pointwise

/-- A head's part of a cache, read at an index. -/
theorem part_at (K : Vec Ideal S2x512x2048 .bf16) (b : Fin 2) (s : Fin 4) (h : Fin 8) (inb) (k : Fin 512) (d : Fin 64) :
    VecWindow.window K ![b.val, 0, 512 * s.val + 64 * h.val] ![1, 512, 64] inb (ix3 0 k d) = K (ix3 b k ⟨512 * s.val + 64 * h.val + d.val, by omega⟩) := by
  refine congrArg K (funext fun a => ?_)
  match a with
  | ⟨0, _⟩ => exact Fin.ext (by show b.val + 1 * 0 = b.val; omega)
  | ⟨1, _⟩ => exact Fin.ext (by show 0 + 1 * k.val = k.val; omega)
  | ⟨2, _⟩ => exact Fin.ext (by show 512 * s.val + 64 * h.val + 1 * d.val = 512 * s.val + 64 * h.val + d.val; omega)

/-- One head's output: the values under the softmax weights of its scores. -/
theorem head_at (neg : FVec Ideal S512x512 .f32) (qg : FVec Ideal S1024x512 .bf16) (K V : Vec Ideal S2x512x2048 .bf16) (b : Fin 2) (s : Fin 4) (h : Fin 8)
    (r : Fin 512) (d : Fin 64) (q : ℕ) (sc : Fin 512 → ℝ) (hneg : ∀ k : Fin 512, neg (ix2 r k) = if Attn.keep q k.val then 0 else ⊥)
    (hsc : ∀ k, ∑ e : Fin 64, qg (ix2 ⟨512 * b.val + r.val, by omega⟩ ⟨64 * h.val + e.val, by omega⟩)
      * K (ix3 b k ⟨512 * s.val + 64 * h.val + e.val, by omega⟩) = (sc k : EReal)) :
    head (F := Ideal) neg qg K V b s h (ix2 r d)
      = ∑ k, (Attn.wt q sc k : EReal) * V (ix3 b k ⟨512 * s.val + 64 * h.val + d.val, by omega⟩) := by
  refine (soft_at neg _ _ _ r d q sc hneg fun k => ?_).trans (Finset.sum_congr rfl fun k _ => congrArg (_ * ·) (part_at V b s h _ k d))
  exact (Finset.sum_congr rfl fun e _ => congrArg₂ (· * ·) (cols_at qg b h r e) (part_at K b s h _ k e)).trans (hsc k)

/-- The heads side by side: column `n` is in head `n / 64`. -/
theorem ctx_at (neg : FVec Ideal S512x512 .f32) (qg : FVec Ideal S1024x512 .bf16) (K V : Vec Ideal S2x512x2048 .bf16) (b : Fin 2) (s : Fin 4) (r n : Fin 512) :
    ctx (F := Ideal) neg qg K V b s (ix2 r n)
      = head neg qg K V b s ⟨n.val / 64, by omega⟩ (ix2 r ⟨n.val % 64, Nat.mod_lt _ (by decide)⟩) := by
  have hn : n.val < 512 := n.isLt
  have hc (h : Fin 8) (d : Fin 64) (eh : h.val = n.val / 64) (ed : d.val = n.val % 64) : head neg qg K V b s h (ix2 r d)
      = head neg qg K V b s ⟨n.val / 64, by omega⟩ (ix2 r ⟨n.val % 64, Nat.mod_lt _ (by decide)⟩) :=
    congrArg₂ (fun h d => head neg qg K V b s h (ix2 r d)) (Fin.ext eh) (Fin.ext ed)
  pointwise [ctx]
  repeat' split
  all_goals exact hc _ _ (by simp only [Fin.coe_ofNat_eq_mod]; omega) (by dsimp only; omega)

/-- A shard's share of one batch's output, read at an index. -/
theorem share_at (neg : FVec Ideal S512x512 .f32) (qg : FVec Ideal S1024x512 .bf16) (K V : Vec Ideal S2x512x2048 .bf16) (wo : Vec Ideal S512x768 .bf16)
    (b : Fin 2) (s : Fin 4) (r : Fin 512) (j : Fin 768) :
    share (F := Ideal) neg qg K V wo b s (ix2 r j) = ∑ n : Fin 512, ctx neg qg K V b s (ix2 r n) * wo (ix2 n j) := by
  pointwise [share]

/-! ## One device's result -/

/-- A slot of a cache, read at an index: slot `s` of device `c` holds block `c + s`. -/
theorem slots_at (c : Dev nD) (f : Vec Ideal S2x512x2048 .f32) (b : Fin 2) (k : Fin 512) (s : Fin 4) (n : Fin 512) :
    slots (F := Ideal) c f (ix3 b k ⟨512 * s.val + n.val, by omega⟩)
      = f (ix3 b k ⟨512 * (rot c s.val).val + n.val, by have := (rot c s.val).isLt; have : nD = 4 := rfl; omega⟩) := by
  refine congrArg (fun i => f (ix3 b k i)) (Fin.ext ?_)
  show 512 * (((512 * s.val + n.val) / 512 + c.val) % 4) + (512 * s.val + n.val) % 512 = 512 * ((c.val + s.val) % 4) + n.val
  omega

section Value

variable (X : (⟨3, ![2, 2048, 768]⟩ : Shape).Idx → EReal) (WQ : (⟨2, ![768, 2048]⟩ : Shape).Idx → EReal)
  (K V : (⟨4, ![2, 512, 32, 64]⟩ : Shape).Idx → EReal) (WO : (⟨2, ![2048, 768]⟩ : Shape).Idx → EReal)

/-- What device `c` starts from, said of the whole arrays: its rows of the queries, every device's block of the two
    weights, and the two caches with their heads side by side. -/
structure Starts (D : Blocks Ideal) (c : Dev nD) (f0 : Vec Ideal S1024x768 .f32) (f2 f3 : Vec Ideal S2x512x2048 .f32) : Prop where
  x : ∀ (b : Fin 2) (r : Fin 512) (t : Fin 768) (q : Fin 2048), q.val = 512 * c.val + r.val → f0 (ix2 ⟨512 * b.val + r.val, by omega⟩ t) = X (ix3 b q t)
  wq : ∀ (g : Dev nD) (t : Fin 768) (n : Fin 512) (n' : Fin 2048), n'.val = 512 * g.val + n.val → D.wq g (ix2 t n) = WQ (ix2 t n')
  wo : ∀ (g : Dev nD) (n : Fin 512) (j : Fin 768) (n' : Fin 2048), n'.val = 512 * g.val + n.val → D.wo g (ix2 n j) = WO (ix2 n' j)
  k : ∀ (b : Fin 2) (k : Fin 512) (h : Fin 32) (d : Fin 64) (n : Fin 2048), n.val = 64 * h.val + d.val → f2 (ix3 b k n) = K (ix4 b k h d)
  v : ∀ (b : Fin 2) (k : Fin 512) (h : Fin 32) (d : Fin 64) (n : Fin 2048), n.val = 64 * h.val + d.val → f3 (ix3 b k n) = V (ix4 b k h d)

variable {X WQ K V WO} (hX : ∀ i, Attn.IsReal (X i)) (hWQ : ∀ i, Attn.IsReal (WQ i)) (hK : ∀ i, Attn.IsReal (K i))
variable {D : Blocks Ideal} {c : Dev nD} {f0 : Vec Ideal S1024x768 .f32} {f2 f3 : Vec Ideal S2x512x2048 .f32} (h : Starts X WQ K V WO D c f0 f2 f3)

include hX hWQ hK h

/-- The scores of a head on device `c`, in the shard `s` places on, are the whole arrays' scores. -/
theorem score_at (b : Fin 2) (s : Fin 4) (hh : Fin 8) (r : Fin 512) (q : Fin 2048) (hq : q.val = 512 * c.val + r.val)
    (H : Fin 32) (hH : H.val = 8 * (rot c s.val).val + hh.val) (k : Fin 512) :
    ∑ e : Fin 64, k0_pay20 (F := Ideal) (k0_pay13 f0) (D.wq (rot c s.val)) (ix2 ⟨512 * b.val + r.val, by omega⟩ ⟨64 * hh.val + e.val, by omega⟩)
        * slots (F := Ideal) c f2 (ix3 b k ⟨512 * s.val + 64 * hh.val + e.val, by omega⟩)
      = (Attn.score X WQ K b H q k : EReal) := by
  unfold Attn.score
  rw [Finset.sum_mul, Attn.coe_sum]
  refine Finset.sum_congr rfl fun e _ => ?_
  have e1 : slots (F := Ideal) c f2 (ix3 b k ⟨512 * s.val + 64 * hh.val + e.val, by omega⟩) = K (ix4 b k H e) := by
    have := slots_at c f2 b k s ⟨64 * hh.val + e.val, by omega⟩
    refine (congrArg (fun i => slots (F := Ideal) c f2 (ix3 b k i)) (Fin.ext (by dsimp only; omega))).trans (this.trans (h.k b k H e _ ?_))
    dsimp only
    omega
  have e2 : k0_pay20 (F := Ideal) (k0_pay13 f0) (D.wq (rot c s.val)) (ix2 ⟨512 * b.val + r.val, by omega⟩ ⟨64 * hh.val + e.val, by omega⟩)
      = (((∑ t : Fin 768, (X (ix3 b q t)).toReal * (WQ (ix2 t ⟨H.val * 64 + e.val, by omega⟩)).toReal) * (1 / 8) : ℝ) : EReal) := by
    rw [proj_at, Finset.sum_mul, Attn.coe_sum]
    refine Finset.sum_congr rfl fun t _ => ?_
    rw [h.x b r t q hq, h.wq (rot c s.val) t ⟨64 * hh.val + e.val, by omega⟩ ⟨H.val * 64 + e.val, by omega⟩ (by dsimp only; omega)]
    rw [EReal.coe_mul, EReal.coe_mul, (hX _).coe, (hWQ _).coe, mul_right_comm]
  rw [e1, e2, ← (hK (ix4 b k H e)).coe, ← EReal.coe_mul, EReal.toReal_coe]
  congr 1
  ring

/-- The heads' output on device `c`, in the shard `s` places on, is the whole arrays' at that shard's columns. -/
theorem mixed_at (b : Fin 2) (s : Fin 4) (r n : Fin 512) (q : Fin 2048) (hq : q.val = 512 * c.val + r.val)
    (n' : Fin 2048) (hn : n'.val = 512 * (rot c s.val).val + n.val) :
    ctx (F := Ideal) (negC c) (k0_pay20 (k0_pay13 f0) (D.wq (rot c s.val))) (slots c f2) (slots c f3) b s (ix2 r n)
      = Attn.mixed X WQ K V b q n' := by
  rw [ctx_at]
  refine (head_at _ _ _ _ b s ⟨n.val / 64, by omega⟩ r ⟨n.val % 64, Nat.mod_lt _ (by decide)⟩ q.val (Attn.score X WQ K b ⟨n'.val / 64, by omega⟩ q)
    (fun k => by rw [hq]; exact negC_at c r k) (fun k => score_at hX hWQ hK h b s ⟨n.val / 64, by omega⟩ r q hq ⟨n'.val / 64, by omega⟩ (by dsimp only; omega) k)).trans ?_
  unfold Attn.mixed
  refine Finset.sum_congr rfl fun k _ => congrArg (_ * ·) ?_
  refine (congrArg (fun i => slots (F := Ideal) c f3 (ix3 b k i)) (Fin.ext (by dsimp only; omega))).trans ((slots_at c f3 b k s n).trans (h.v b k _ _ _ ?_))
  dsimp only
  omega

/-- A shard's share, as a sum over that shard's columns. -/
theorem shard_at (b : Fin 2) (s : Fin 4) (r : Fin 512) (j : Fin 768) (q : Fin 2048) (hq : q.val = 512 * c.val + r.val) :
    shard (F := Ideal) D c f0 f2 f3 s (ix3 b r j)
      = ∑ n : Fin 512, Attn.mixed X WQ K V b q ⟨512 * (rot c s.val).val + n.val, by have := (rot c s.val).isLt; have : nD = 4 := rfl; omega⟩
          * WO (ix2 ⟨512 * (rot c s.val).val + n.val, by have := (rot c s.val).isLt; have : nD = 4 := rfl; omega⟩ j) := by
  have e : shard (F := Ideal) D c f0 f2 f3 s (ix3 b r j)
      = share (negC c) (k0_pay20 (k0_pay13 f0) (D.wq (rot c s.val))) (slots c f2) (slots c f3) (D.wo (rot c s.val)) b s (ix2 r j) := by
    match b with
    | 0 => rfl
    | 1 => rfl
  rw [e, share_at]
  refine Finset.sum_congr rfl fun n _ => ?_
  exact congrArg₂ (· * ·) (mixed_at hX hWQ hK h b s r n q hq _ rfl) (h.wo (rot c s.val) n j _ rfl)

/-- Device `c`'s result is its rows of the common function. -/
theorem outC_at (b : Fin 2) (r : Fin 512) (j : Fin 768) (q : Fin 2048) (hq : q.val = 512 * c.val + r.val) :
    outC (F := Ideal) D c f0 f2 f3 (ix3 b r j) = Attn.result X WQ K V WO b q j := by
  unfold Attn.result
  rw [Attn.sum_blocks]
  have e := Attn.sum_rot (fun g => ∑ n : Fin 512, Attn.mixed X WQ K V b q ⟨512 * g.val + n.val, by omega⟩ * WO (ix2 ⟨512 * g.val + n.val, by omega⟩ j))
    c (fun k => rot c k) (fun _ => rfl)
  refine Eq.trans ?_ e
  have a (s : Fin 4) := shard_at hX hWQ hK h b s r j q hq
  exact congrArg₂ (· + ·) (congrArg₂ (· + ·) (congrArg₂ (· + ·) (a 0) (a 3)) (a 1)) (a 2)

end Value

end Cert.Ring

end
-- ==== Proof.RefValue.lean ====
module

public import proofs.«01_k».proof.Proof.Gen.ReferenceIdeal
public import proofs.«01_k».proof.Proof.Gen.ReferenceIdeal.Run
public import Idealize.ShloMosaic.Lib.Pointwise
public import Idealize.ShloMosaic.Lib.Tactic
public import Idealize.ShloMosaic.Lib.Routing.OpsOrder
public import proofs.«01_k».proof.Proof.Maths

@[expose] public section

set_option maxRecDepth 16384

noncomputable section

namespace Cert.Plain

open Idealize.ShloMosaic Cert.ReferenceIdeal Cert.ReferenceIdeal.Gen Idealize.ShloMosaic.TcCoe

/-- A word divided by 64 the way the program divides: the quotient toward zero, less one where the signs differ and a
    remainder is left. -/
def blockOf (S : Shape) (h : S_.BroadcastsInDim S ![]) (x : IVec S 32) : IVec S 32 :=
  select (andi (cmpi .ne (signi x) (broadcastInDim S ![] h (signi (id (constantI S_ 32 64#32)))))
      (cmpi .ne (Host.remsi x (broadcastInDim S ![] h (id (constantI S_ 32 64#32)))) (broadcastInDim S ![] h (constantI S_ 32 0#32))))
    (subi (Host.divsi x (broadcastInDim S ![] h (id (constantI S_ 32 64#32)))) (broadcastInDim S ![] h (constantI S_ 32 1#32)))
    (Host.divsi x (broadcastInDim S ![] h (id (constantI S_ 32 64#32))))

/-- The block of each query row, along a row of keys. -/
def qBlocks : IVec S2048x512 32 :=
  broadcastInDim S2048x512 ![0, 1] bcast_S2048x1_S2048x512_0_1
    (broadcastInDim S2048x1 ![0] bcast_S2048_S2048x1_0 (blockOf S2048 bcast_S_S2048 (iotaInDim S2048 32 0)))

/-- The block of each key, as one row. -/
def kBlocks1 : IVec S1x512 32 :=
  broadcastInDim S1x512 ![1] bcast_S512_S1x512_1 (blockOf S512 bcast_S_S512 (iotaInDim S512 32 0))

/-- The block of each key, along a column of query rows. -/
def kBlocks : IVec S2048x512 32 := broadcastInDim S2048x512 ![0, 1] bcast_S1x512_S2048x512_0_1 kBlocks1

/-- The divisor three, as the program's remainder guards it. -/
def three : IVec S_ 32 := select (cmpi .eq (id (constantI S_ 32 3#32)) (constantI S_ 32 0#32)) (constantI S_ 32 1#32) (id (constantI S_ 32 3#32))

/-- The remainder of the two blocks' sum by three, toward zero. -/
def rem3 : IVec S2048x512 32 := Host.remsi (addi qBlocks kBlocks) (broadcastInDim S2048x512 ![] bcast_S_S2048x512 three)

/-- The remainder brought to the divisor's sign. -/
def mod3 : IVec S2048x512 32 :=
  select (andi (cmpi .ne (cmpi .slt rem3 (broadcastInDim S2048x512 ![] bcast_S_S2048x512 (constantI S_ 32 0#32)))
      (broadcastInDim S2048x512 ![] bcast_S_S2048x512 (cmpi .slt three (constantI S_ 32 0#32))))
      (cmpi .ne rem3 (broadcastInDim S2048x512 ![] bcast_S_S2048x512 (constantI S_ 32 0#32))))
    (addi rem3 (broadcastInDim S2048x512 ![] bcast_S_S2048x512 three)) rem3

/-- The mask of the pairs that attend. -/
def keepBits : IVec S2048x512 1 :=
  ori (ori (cmpi .eq qBlocks kBlocks)
      (broadcastInDim S2048x512 ![0, 1] bcast_S1x512_S2048x512_0_1 (cmpi .eq kBlocks1 (broadcastInDim S1x512 ![] bcast_S_S1x512 (constantI S_ 32 0#32)))))
    (cmpi .eq mod3 (broadcastInDim S2048x512 ![] bcast_S_S2048x512 (constantI S_ 32 0#32)))

/-- Whether a query row keeps any key. -/
def rowBits : IVec S1x1x2048x1 1 :=
  broadcastInDim S1x1x2048x1 ![2] bcast_S2048_S1x1x2048x1_2
    (Host.reduce IntOp.ori keepBits (constantI S_ 1 0#1) reducesTo_S2048x512_S2048_d1 h_S_)

/-- The scaled scores. -/
def scores (x : FVec Ideal S2x2048x768 .f32) (wq : FVec Ideal S768x2048 .f32) (K : FVec Ideal S2x512x32x64 .f32) : FVec Ideal S2x32x2048x512 .f32 :=
  mulf (Host.dotGeneral dot_S2x2048x32x64_S2x512x32x64_S2x32x2048x512_3_3_1_1_02_02 none
      (shapeCast S2x2048x32x64 (Host.dotGeneral (F := Ideal) (φ₁ := .f32) (φ₂ := .f32) dot_S2x2048x768_S768x2048_S2x2048x2048_2_0_01_1_n_n none x wq) shapeCasts_S2x2048x2048_S2x2048x32x64) K)
    (broadcastInDim S2x32x2048x512 ![] bcast_S_S2x32x2048x512 (constant S_ .f32 0x3E000000#32))

/-- The scores with the pairs left out at −∞. -/
def masked (s : FVec Ideal S2x32x2048x512 .f32) : FVec Ideal S2x32x2048x512 .f32 :=
  select (broadcastInDim S2x32x2048x512 ![0, 1, 2, 3] bcast_S1x1x2048x512_S2x32x2048x512_0_1_2_3
      (broadcastInDim S1x1x2048x512 ![2, 3] bcast_S2048x512_S1x1x2048x512_2_3 keepBits)) s
    (broadcastInDim S2x32x2048x512 ![] bcast_S_S2x32x2048x512 (id (constant (F := Ideal) S_ .f32 0xFF800000#32)))

/-- The exponentials of the scores less their row's largest. -/
def expd (s : FVec Ideal S2x32x2048x512 .f32) : FVec Ideal S2x32x2048x512 .f32 :=
  Host.exp (subf s (broadcastInDim S2x32x2048x512 ![0, 1, 2, 3] bcast_S2x32x2048x1_S2x32x2048x512_0_1_2_3
    (broadcastInDim S2x32x2048x1 ![0, 1, 2] bcast_S2x32x2048_S2x32x2048x1_0_1_2
      (Host.reduce FloatOps.maximumf s (constant S_ .f32 0xFF800000#32) reducesTo_S2x32x2048x512_S2x32x2048_d3 h_S_))))

/-- The weights: the exponentials over their row's sum. -/
def weights (e : FVec Ideal S2x32x2048x512 .f32) : FVec Ideal S2x32x2048x512 .f32 :=
  select (broadcastInDim S2x32x2048x512 ![0, 1, 2, 3] bcast_S1x1x2048x1_S2x32x2048x512_0_1_2_3 rowBits)
    (Host.divf e (broadcastInDim S2x32x2048x512 ![0, 1, 2, 3] bcast_S2x32x2048x1_S2x32x2048x512_0_1_2_3
      (select (broadcastInDim S2x32x2048x1 ![0, 1, 2, 3] bcast_S1x1x2048x1_S2x32x2048x1_0_1_2_3 rowBits)
        (broadcastInDim S2x32x2048x1 ![0, 1, 2] bcast_S2x32x2048_S2x32x2048x1_0_1_2
          (Host.reduceAdd e (constant S_ .f32 0x00000000#32) reducesTo_S2x32x2048x512_S2x32x2048_d3 h_S_))
        (broadcastInDim S2x32x2048x1 ![] bcast_S_S2x32x2048x1 (id (constant (F := Ideal) S_ .f32 0x3F800000#32))))))
    (broadcastInDim S2x32x2048x512 ![] bcast_S_S2x32x2048x512 (id (constant (F := Ideal) S_ .f32 0x00000000#32)))

/-- The weighted values, projected. -/
def projected (p : FVec Ideal S2x32x2048x512 .f32) (v : FVec Ideal S2x512x32x64 .f32) (wo : FVec Ideal S2048x768 .f32) : FVec Ideal S2x2048x768 .f32 :=
  Host.dotGeneral dot_S2x2048x2048_S2048x768_S2x2048x768_2_0_01_1_n_n none
    (shapeCast S2x2048x2048 (transpose S2x2048x32x64 [0, 3, 1, 2]
      (Host.dotGeneral (F := Ideal) (φ₁ := .f32) (φ₂ := .f32) dot_S2x512x32x64_S2x32x2048x512_S2x32x64x2048_1_3_3_2_02_01 none v p) transposes_S2x32x64x2048_S2x2048x32x64_0_3_1_2)
      shapeCasts_S2x2048x32x64_S2x2048x2048) wo

/-! ## The mask -/

/-- One word divided by 64 as the program divides. -/
def fdw (w : BitVec 32) : BitVec 32 := blockOf S2048 bcast_S_S2048 (fun _ => w) (ix1 0)

/-- It is the quotient. -/
theorem fdw_ofNat : ∀ n : Fin 2048, fdw (BitVec.ofNat 32 n.val) = BitVec.ofNat 32 (n.val / 64) := by decide +kernel

/-- The remainder by three of one word, as the program takes it. -/
def m3w (w : BitVec 32) : BitVec 32 :=
  have r : BitVec 32 := IntOp.remsi ArithUnit.host w (three ix0)
  Scalar.select (IntOp.andi (IntOp.cmpi .ne (IntOp.cmpi .slt r 0#32) (IntOp.cmpi .slt (three ix0) 0#32)) (IntOp.cmpi .ne r 0#32))
    (IntOp.addi r (three ix0)) r

/-- The mask's bit of a pair of blocks. -/
def keepw (a b : BitVec 32) : BitVec 1 :=
  IntOp.ori (IntOp.ori (IntOp.cmpi .eq a b) (IntOp.cmpi .eq b 0#32)) (IntOp.cmpi .eq (m3w (IntOp.addi a b)) 0#32)

/-- It says which blocks attend. -/
theorem keepw_ofNat : ∀ (a : Fin 32) (b : Fin 8), keepw (BitVec.ofNat 32 a.val) (BitVec.ofNat 32 b.val)
    = BitVec.ofBool (decide (a.val = b.val ∨ b.val = 0 ∨ (a.val + b.val) % 3 = 0)) := by decide +kernel

/-- The mask at a pair. -/
theorem keepBits_at (q : Fin 2048) (k : Fin 512) : keepBits (ix2 q k) = BitVec.ofBool (decide (Attn.keep q.val k.val)) := by
  have h : keepBits (ix2 q k) = keepw (fdw (BitVec.ofNat 32 q.val)) (fdw (BitVec.ofNat 32 k.val)) := rfl
  rw [h, fdw_ofNat q, fdw_ofNat ⟨k.val, by omega⟩]
  exact keepw_ofNat ⟨q.val / 64, by omega⟩ ⟨k.val / 64, by omega⟩

/-- Every row keeps a key. -/
theorem rowBits_at (q : Fin 2048) : rowBits (ix4 0 0 q 0) = 1#1 := by
  pointwise [rowBits]
  rw [Routing.fold_ori]
  refine ⟨0, Finset.mem_univ _, ?_⟩
  rw [keepBits_at]
  exact congrArg BitVec.ofBool (decide_eq_true (Attn.keep_zero q.val))

/-! ## The stages at an index -/

/-- A scaled score. -/
theorem scores_at (x : FVec Ideal S2x2048x768 .f32) (wq : FVec Ideal S768x2048 .f32) (K : FVec Ideal S2x512x32x64 .f32)
    (hx : ∀ i, Attn.IsReal (x i)) (hw : ∀ i, Attn.IsReal (wq i)) (hK : ∀ i, Attn.IsReal (K i))
    (b : Fin 2) (h : Fin 32) (q : Fin 2048) (k : Fin 512) : scores x wq K (ix4 b h q k) = (Attn.score x wq K b h q k : EReal) := by
  pointwise [scores]
  rw [Attn.eighth, Attn.score, EReal.coe_mul, Attn.coe_sum]
  refine congrArg (· * _) (Finset.sum_congr rfl fun d _ => ?_)
  rw [EReal.coe_mul, Attn.coe_sum, (hK _).coe]
  refine congrArg (· * _) (Finset.sum_congr rfl fun t _ => ?_)
  rw [EReal.coe_mul, (hx _).coe, (hw _).coe]

/-- A score, or −∞ where the pair is left out. -/
theorem masked_at (s : FVec Ideal S2x32x2048x512 .f32) (r : Fin 2 → Fin 32 → Fin 2048 → Fin 512 → ℝ)
    (hs : ∀ b h q k, s (ix4 b h q k) = (r b h q k : EReal)) (b : Fin 2) (h : Fin 32) (q : Fin 2048) (k : Fin 512) :
    masked s (ix4 b h q k) = Attn.masked q.val (r b h q) k := by
  have e : masked s (ix4 b h q k) = Scalar.select (keepBits (ix2 q k)) (s (ix4 b h q k)) (Ideal.ofBits .f32 0xFF800000#32) := by
    pointwise [masked]
    rfl
  rw [e, keepBits_at, hs, Attn.negInf]
  unfold Attn.masked
  by_cases hk : Attn.keep q.val k.val
  · rw [if_pos hk, decide_eq_true hk]
    rfl
  · rw [if_neg hk, decide_eq_false hk]
    rfl

/-- A weight is the softmax of its row. -/
theorem weights_at (s : FVec Ideal S2x32x2048x512 .f32) (r : Fin 2 → Fin 32 → Fin 2048 → Fin 512 → ℝ)
    (hs : ∀ b h q k, s (ix4 b h q k) = (r b h q k : EReal)) (b : Fin 2) (h : Fin 32) (q : Fin 2048) (k : Fin 512) :
    weights (expd (masked s)) (ix4 b h q k) = (Attn.wt q.val (r b h q) k : EReal) := by
  have e (p : FVec Ideal S2x32x2048x512 .f32) : weights p (ix4 b h q k) = Ideal.div (p (ix4 b h q k)) (∑ j, p (ix4 b h q j)) := by
    pointwise [weights]
    rw [rowBits_at]
    rfl
  have e' (k : Fin 512) : expd (masked s) (ix4 b h q k)
      = Ideal.exp (Attn.masked q.val (r b h q) k - Finset.fold max ⊥ (Attn.masked q.val (r b h q)) Finset.univ) := by
    pointwise [expd]
    rw [Attn.negInf]
    simp only [masked_at s r hs]
  rw [e]
  simp only [e']
  exact Attn.softmax_plain q.val (r b h q) k

/-- The reference at an index: the common function. -/
theorem value_at (x : FVec Ideal S2x2048x768 .f32) (wq : FVec Ideal S768x2048 .f32) (K V : FVec Ideal S2x512x32x64 .f32) (wo : FVec Ideal S2048x768 .f32)
    (hx : ∀ i, Attn.IsReal (x i)) (hw : ∀ i, Attn.IsReal (wq i)) (hK : ∀ i, Attn.IsReal (K i))
    (b : Fin 2) (q : Fin 2048) (j : Fin 768) :
    projected (weights (expd (masked (scores x wq K)))) V wo (ix3 b q j) = Attn.result x wq K V wo b q j := by
  pointwise [projected]
  unfold Attn.result Attn.mixed
  refine Finset.sum_congr rfl fun n _ => congrArg (· * _) (Finset.sum_congr rfl fun k _ => ?_)
  rw [weights_at (scores x wq K) (Attn.score x wq K) (scores_at x wq K hx hw hK), mul_comm]

/-- The reference's result is the stages one after another. -/
theorem res_eq (m : (ℓ : Loc nD τ sig) → Buf (Elt Ideal) ℓ) (c : Dev nD) :
    Cert.ReferenceIdeal.Value.res_out0 m c
      = projected (weights (expd (masked (scores (m ((c.tc : Thread nD τ).loc main_arg0)) (m ((c.tc : Thread nD τ).loc main_arg1)) (m ((c.tc : Thread nD τ).loc main_arg2))))))
          (m ((c.tc : Thread nD τ).loc main_arg3)) (m ((c.tc : Thread nD τ).loc main_arg4)) := by
  unfold Cert.ReferenceIdeal.Value.res_out0 Cert.ReferenceIdeal.Value.res_main_v44
  rfl

end Cert.Plain

end
-- ==== Proof.Value.lean ====
module

public import proofs.«01_k».proof.Defs
public import proofs.«01_k».proof.Proof.KerValue
public import proofs.«01_k».proof.Proof.RefValue
public import proofs.«01_k».proof.Proof.Launch
public import Idealize.ShloMosaic.Lib.Pipeline.Value
public import Idealize.ShloMosaic.Lib.StableHlo.ReadAt
public import Idealize.ShloMosaic.Lib.ReduceAll
public import Idealize.ShloMosaic.Lib.LayoutAt

@[expose] public section

set_option maxRecDepth 16384

noncomputable section

namespace Cert.Ring

open Cert.KernelIdeal Cert.KernelIdeal.Gen
open Idealize.ShloMosaic Idealize.ShloMosaic.TcCoe Idealize.SL.Sem

/-! ## What the kernel's windows read -/

section Windows

variable (m : (ℓ : Loc nD τ sig) → Buf (Elt Ideal) ℓ) (c : Dev nD)

/-- The queries' window is the whole array of the queries. -/
theorem iblk_x : iblk m c 0 t0_0 = V m c main_v1 := funext fun y =>
  congrArg (V m c main_v1) (funext fun a => Fin.ext (Pipeline.Window.rect_emb_val_of_index_zero (cfg0.win 0) t0_0 a (by revert a; decide) y))
/-- So is that of the query weights. -/
theorem iblk_wq : iblk m c 1 t0_0 = V m c main_arg1 := funext fun y =>
  congrArg (V m c main_arg1) (funext fun a => Fin.ext (Pipeline.Window.rect_emb_val_of_index_zero (cfg0.win 1) t0_0 a (by revert a; decide) y))
/-- So is that of the keys. -/
theorem iblk_k : iblk m c 2 t0_0 = V m c main_v2 := funext fun y =>
  congrArg (V m c main_v2) (funext fun a => Fin.ext (Pipeline.Window.rect_emb_val_of_index_zero (cfg0.win 2) t0_0 a (by revert a; decide) y))
/-- So is that of the values. -/
theorem iblk_v : iblk m c 3 t0_0 = V m c main_v3 := funext fun y =>
  congrArg (V m c main_v3) (funext fun a => Fin.ext (Pipeline.Window.rect_emb_val_of_index_zero (cfg0.win 3) t0_0 a (by revert a; decide) y))
/-- So is that of the output weights. -/
theorem iblk_wo : iblk m c 4 t0_0 = V m c main_arg4 := funext fun y =>
  congrArg (V m c main_arg4) (funext fun a => Fin.ext (Pipeline.Window.rect_emb_val_of_index_zero (cfg0.win 4) t0_0 a (by revert a; decide) y))

/-- The queries, flattened by the host. -/
theorem V_x (b : Fin 2) (r : Fin 512) (t : Fin 768) :
    (V m c main_v1 : Vec Ideal S1024x768 .f32) (ix2 ⟨512 * b.val + r.val, by omega⟩ t) = (m ((c : Thread nD τ).loc main_arg0) : Vec Ideal S2x512x768 .f32) (ix3 b r t) := by
  unfold V
  after_reads_at

/-- The keys' cache, flattened by the host. -/
theorem V_k (b : Fin 2) (k : Fin 512) (n : Fin 2048) :
    (V m c main_v2 : Vec Ideal S2x512x2048 .f32) (ix3 b k n)
      = (m ((c : Thread nD τ).loc main_arg2) : Vec Ideal S2x512x32x64 .f32) (ix4 b k ⟨n.val / 64, by omega⟩ ⟨n.val % 64, Nat.mod_lt _ (by decide)⟩) := by
  unfold V
  after_reads_at

/-- The values' cache, flattened by the host. -/
theorem V_v (b : Fin 2) (k : Fin 512) (n : Fin 2048) :
    (V m c main_v3 : Vec Ideal S2x512x2048 .f32) (ix3 b k n)
      = (m ((c : Thread nD τ).loc main_arg3) : Vec Ideal S2x512x32x64 .f32) (ix4 b k ⟨n.val / 64, by omega⟩ ⟨n.val % 64, Nat.mod_lt _ (by decide)⟩) := by
  unfold V
  after_reads_at

/-- At the reals the casts of the weights' blocks change nothing. -/
theorem pay1_eq (x w : Vec Ideal S768x512 .f32) (h : x = w) (i : S768x512.Idx) : k0_pay1 (F := Ideal) x i = w i := by
  subst h
  idx_vars i
  pointwise [k0_pay1]
/-- The same of the output weights. -/
theorem pay2_eq (x w : Vec Ideal S512x768 .f32) (h : x = w) (i : S512x768.Idx) : k0_pay2 (F := Ideal) x i = w i := by
  subst h
  idx_vars i
  pointwise [k0_pay2]

/-- What a device's ring slots start with: its own blocks of the weights. -/
theorem blocks_wq (i : S768x512.Idx) : (blocks (F := Ideal) m).wq c i = k0_pay1 (F := Ideal) (iblk m c 1 t0_0) i := rfl
/-- The same of the output weights. -/
theorem blocks_wo (i : S512x768.Idx) : (blocks (F := Ideal) m).wo c i = k0_pay2 (F := Ideal) (iblk m c 4 t0_0) i := rfl

end Windows

/-! ## A device's blocks of the whole arrays -/

/-- Device `c`'s block of the queries, or of the result, holds rows `512 c` and on. -/
theorem block_x (X : (⟨3, ![2, 2048, 768]⟩ : Shape).Idx → EReal) (c : Fin 4) (b : Fin 2) (r : Fin 512) (t : Fin 768) (q : Fin 2048) (hq : q.val = 512 * c.val + r.val) :
    Layout.block ⟨3, ![2, 512, 768]⟩ ⟨3, ![2, 2048, 768]⟩ 1 4 c X (by decide) (ix3 b r t) = X (ix3 b q t) := by
  refine congrArg X (funext fun a => ?_)
  match a with
  | ⟨0, _⟩ => rfl
  | ⟨1, _⟩ => exact Fin.ext (by show c.val * 512 + r.val = q.val; omega)
  | ⟨2, _⟩ => rfl

/-- Device `c`'s block of the query weights holds columns `512 c` and on. -/
theorem block_wq (W : (⟨2, ![768, 2048]⟩ : Shape).Idx → EReal) (c : Fin 4) (t : Fin 768) (n : Fin 512) (n' : Fin 2048) (hn : n'.val = 512 * c.val + n.val) :
    Layout.block ⟨2, ![768, 512]⟩ ⟨2, ![768, 2048]⟩ 1 4 c W (by decide) (ix2 t n) = W (ix2 t n') := by
  refine congrArg W (funext fun a => ?_)
  match a with
  | ⟨0, _⟩ => rfl
  | ⟨1, _⟩ => exact Fin.ext (by show c.val * 512 + n.val = n'.val; omega)

/-- Device `c`'s block of the output weights holds rows `512 c` and on. -/
theorem block_wo (W : (⟨2, ![2048, 768]⟩ : Shape).Idx → EReal) (c : Fin 4) (n : Fin 512) (j : Fin 768) (n' : Fin 2048) (hn : n'.val = 512 * c.val + n.val) :
    Layout.block ⟨2, ![512, 768]⟩ ⟨2, ![2048, 768]⟩ 0 4 c W (by decide) (ix2 n j) = W (ix2 n' j) := by
  refine congrArg W (funext fun a => ?_)
  match a with
  | ⟨0, _⟩ => exact Fin.ext (by show c.val * 512 + n.val = n'.val; omega)
  | ⟨1, _⟩ => rfl

/-! ## The precondition -/

/-- A conjunction of bits is one only if both are. -/
theorem andi_one {a b : BitVec 1} (h : IntOp.andi a b = 1#1) : a = 1#1 ∧ b = 1#1 := by
  revert a b; decide

/-- An element that compares below +∞ in magnitude is neither infinity. -/
theorem isReal_of_lt (a : Ideal .f32) (h : FloatOps.cmpf (F := Ideal) .olt (FloatOps.hostAbsf a) (Ideal.ofBits .f32 0x7F800000#32) = 1#1) : Attn.IsReal a := by
  rw [Attn.posInf] at h
  refine Attn.fin_of_abs_lt ?_
  by_contra hc
  have : FloatOps.cmpf (F := Ideal) (φ := .f32) .olt (FloatOps.hostAbsf a) ⊤ = 0#1 := by
    show BitVec.ofBool (decide (max a (-a) < ⊤)) = 0#1
    rw [decide_eq_false hc]
    rfl
  rw [this] at h
  exact absurd h (by decide)

/-- The facts that the printed precondition states of its shapes. -/
instance preFacts : Cert.Pre_finite_scores_KernelIdeal.Facts where
  bcast_S_S2x512x768 := by decide
  reducesTo_S2x512x768_S_d0_1_2 := by decide
  h_S_ := by decide
  bcast_S_S768x512 := by decide
  reducesTo_S768x512_S_d0_1 := by decide
  bcast_S_S2x512x32x64 := by decide
  reducesTo_S2x512x32x64_S_d0_1_2_3 := by decide

instance : Subsingleton (Cert.Pre_finite_scores_KernelIdeal.S_).Idx := ⟨fun a b => funext fun i => i.elim0⟩

/-- The precondition says that a device's queries, its query weights and its keys are finite. -/
theorem pre_real (x : FVec Ideal ⟨3, ![2, 512, 768]⟩ .f32) (wq : FVec Ideal ⟨2, ![768, 512]⟩ .f32) (K V : FVec Ideal ⟨4, ![2, 512, 32, 64]⟩ .f32)
    (wo : FVec Ideal ⟨2, ![512, 768]⟩ .f32) (h : Cert.Pre_finite_scores_KernelIdeal.fn (F := Ideal) x wq K V wo = fun _ => 1#1) :
    (∀ i, Attn.IsReal (x i)) ∧ (∀ i, Attn.IsReal (wq i)) ∧ (∀ i, Attn.IsReal (K i)) := by
  have h0 := congrFun h ix0
  unfold Cert.Pre_finite_scores_KernelIdeal.fn at h0
  obtain ⟨h1, hk⟩ := andi_one h0
  obtain ⟨hx, hw⟩ := andi_one h1
  exact ⟨fun i => isReal_of_lt _ (Host.reduce_andi_all _ _ _ _ _ hx i), fun i => isReal_of_lt _ (Host.reduce_andi_all _ _ _ _ _ hw i),
    fun i => isReal_of_lt _ (Host.reduce_andi_all _ _ _ _ _ hk i)⟩

/-- Whole queries are finite when every device's block of them is. -/
theorem real_x (X : (⟨3, ![2, 2048, 768]⟩ : Shape).Idx → EReal)
    (h : ∀ (c : Fin 4) i, Attn.IsReal (Layout.block ⟨3, ![2, 512, 768]⟩ ⟨3, ![2, 2048, 768]⟩ 1 4 c X (by decide) i)) (i : (⟨3, ![2, 2048, 768]⟩ : Shape).Idx) :
    Attn.IsReal (X i) := by
  obtain ⟨b, q, t, rfl⟩ : ∃ (b : Fin 2) (q : Fin 2048) (t : Fin 768), i = ix3 b q t := ⟨i 0, i 1, i 2, eq_ix3 i⟩
  rw [← block_x X ⟨q.val / 512, by omega⟩ b ⟨q.val % 512, Nat.mod_lt _ (by decide)⟩ t q (by dsimp only; omega)]
  exact h _ _

/-- Whole query weights are finite when every device's block of them is. -/
theorem real_wq (W : (⟨2, ![768, 2048]⟩ : Shape).Idx → EReal)
    (h : ∀ (c : Fin 4) i, Attn.IsReal (Layout.block ⟨2, ![768, 512]⟩ ⟨2, ![768, 2048]⟩ 1 4 c W (by decide) i)) (i : (⟨2, ![768, 2048]⟩ : Shape).Idx) :
    Attn.IsReal (W i) := by
  obtain ⟨t, n, rfl⟩ : ∃ (t : Fin 768) (n : Fin 2048), i = ix2 t n := ⟨i 0, i 1, eq_ix2 i⟩
  rw [← block_wq W ⟨n.val / 512, by omega⟩ t ⟨n.val % 512, Nat.mod_lt _ (by decide)⟩ n (by dsimp only; omega)]
  exact h _ _

/-! ## The claim -/

/-- Four devices' runs of the kernel leave the blocks of what one run of the reference leaves. -/
theorem algebraic : Cert.algebraic_KernelIdeal_ReferenceIdeal_pre_finite_scores_KernelIdeal
    (hKernelIdeal := Cert.KernelIdeal.Gen.facts) (hReferenceIdeal := Cert.ReferenceIdeal.Gen.facts) (hPre_finite_scores_KernelIdeal := preFacts) := by
  intro m g m' g' hpre hm
  let X : FVec Ideal ⟨3, ![2, 2048, 768]⟩ .f32 := m' (((0 : Dev Cert.ReferenceIdeal.nD).tc : Thread Cert.ReferenceIdeal.nD Cert.ReferenceIdeal.τ).loc Cert.ReferenceIdeal.main_arg0)
  let WQ : FVec Ideal ⟨2, ![768, 2048]⟩ .f32 := m' (((0 : Dev Cert.ReferenceIdeal.nD).tc : Thread Cert.ReferenceIdeal.nD Cert.ReferenceIdeal.τ).loc Cert.ReferenceIdeal.main_arg1)
  let K : FVec Ideal ⟨4, ![2, 512, 32, 64]⟩ .f32 := m' (((0 : Dev Cert.ReferenceIdeal.nD).tc : Thread Cert.ReferenceIdeal.nD Cert.ReferenceIdeal.τ).loc Cert.ReferenceIdeal.main_arg2)
  let VV : FVec Ideal ⟨4, ![2, 512, 32, 64]⟩ .f32 := m' (((0 : Dev Cert.ReferenceIdeal.nD).tc : Thread Cert.ReferenceIdeal.nD Cert.ReferenceIdeal.τ).loc Cert.ReferenceIdeal.main_arg3)
  let WO : FVec Ideal ⟨2, ![2048, 768]⟩ .f32 := m' (((0 : Dev Cert.ReferenceIdeal.nD).tc : Thread Cert.ReferenceIdeal.nD Cert.ReferenceIdeal.τ).loc Cert.ReferenceIdeal.main_arg4)
  have ex (c : Dev nD) : m ((c : Thread nD τ).loc main_arg0) = Layout.block ⟨3, ![2, 512, 768]⟩ ⟨3, ![2, 2048, 768]⟩ 1 4 c X (by decide) := (hm c).1
  have ewq (c : Dev nD) : m ((c : Thread nD τ).loc main_arg1) = Layout.block ⟨2, ![768, 512]⟩ ⟨2, ![768, 2048]⟩ 1 4 c WQ (by decide) := (hm c).2.1
  have ek (c : Dev nD) : m ((c : Thread nD τ).loc main_arg2) = K := (hm c).2.2.1
  have ev (c : Dev nD) : m ((c : Thread nD τ).loc main_arg3) = VV := (hm c).2.2.2.1
  have ewo (c : Dev nD) : m ((c : Thread nD τ).loc main_arg4) = Layout.block ⟨2, ![512, 768]⟩ ⟨2, ![2048, 768]⟩ 0 4 c WO (by decide) := (hm c).2.2.2.2
  have hreal (c : Dev nD) := pre_real _ _ _ _ _ (hpre c)
  have hX : ∀ i, Attn.IsReal (X i) := real_x X fun c i => by
    rw [← ex c]
    exact (hreal c).1 i
  have hWQ : ∀ i, Attn.IsReal (WQ i) := real_wq WQ fun c i => by
    rw [← ewq c]
    exact (hreal c).2.1 i
  have hK (i : (⟨4, ![2, 512, 32, 64]⟩ : Shape).Idx) : Attn.IsReal (K i) := by
    have := (hreal 0).2.2 i
    rw [ek] at this
    exact this
  have hs (c : Dev nD) : Starts X WQ K VV WO (blocks m) c (iblk m c 0 t0_0) (iblk m c 2 t0_0) (iblk m c 3 t0_0) := by
    refine ⟨fun b r t q hq => ?_, fun d t n n' hn => ?_, fun d n j n' hn => ?_, fun b k h d n hn => ?_, fun b k h d n hn => ?_⟩
    · exact (congrFun (iblk_x m c) _).trans ((V_x m c b r t).trans ((congrFun (ex c) _).trans (block_x X c b r t q hq)))
    · exact (blocks_wq m d _).trans ((pay1_eq _ _ ((iblk_wq m d).trans ((V_main_arg1 m d).trans (ewq d))) _).trans (block_wq WQ d t n n' hn))
    · exact (blocks_wo m d _).trans ((pay2_eq _ _ ((iblk_wo m d).trans ((V_main_arg4 m d).trans (ewo d))) _).trans (block_wo WO d n j n' hn))
    · refine (congrFun (iblk_k m c) _).trans ((V_k m c b k n).trans ((congrFun (ek c) _).trans ?_))
      exact congrArg₂ (fun h d => K (ix4 b k h d)) (Fin.ext (by dsimp only; omega)) (Fin.ext (by dsimp only; omega))
    · refine (congrFun (iblk_v m c) _).trans ((V_v m c b k n).trans ((congrFun (ev c) _).trans ?_))
      exact congrArg₂ (fun h d => VV (ix4 b k h d)) (Fin.ext (by dsimp only; omega)) (Fin.ext (by dsimp only; omega))
  let R : FVec Ideal ⟨3, ![2, 2048, 768]⟩ .f32 := Cert.ReferenceIdeal.Value.res_out0 m' 0
  have eR (b : Fin 2) (q : Fin 2048) (j : Fin 768) : R (ix3 b q j) = Attn.result X WQ K VV WO b q j :=
    (congrFun (Plain.res_eq m' 0) _).trans (Plain.value_at X WQ K VV WO hX hWQ hK b q j)
  have eK (c : Dev nD) : resC m c = Layout.block ⟨3, ![2, 512, 768]⟩ ⟨3, ![2, 2048, 768]⟩ 1 4 c R (by decide) := by
    funext i
    obtain ⟨b, r, j, rfl⟩ : ∃ (b : Fin 2) (r : Fin 512) (j : Fin 768), i = ix3 b r j := ⟨i 0, i 1, i 2, eq_ix3 i⟩
    have hc : c.val < 4 := c.isLt
    refine (outC_at hX hWQ hK (hs c) b r j ⟨512 * c.val + r.val, by omega⟩ rfl).trans ?_
    exact (eR b _ j).symm.trans (block_x R c b r j _ rfl).symm
  refine ⟨R, ?_, ?_⟩
  · refine (θ_run defs _ _).mono (fun r h c => ?_) (run_main m g)
    obtain ⟨h0, h1, h2, h3, h4, h5⟩ := h.1 c
    exact ⟨h5.trans (eK c), h0, h1, h2, h3, h4⟩
  · exact (θ_run Cert.ReferenceIdeal.defs _ _).mono (fun r h => h 0) (Cert.ReferenceIdeal.Value.run (F := Ideal) m' g')

end Cert.Ring

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem

/-- The reference leaves its arguments as they were, and has no counter. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The one constant rewritten: the mask's word is named, and the name is −∞. -/
theorem preserves : Cert.preserves_Kernel_KernelIdeal :=
  IdealRules.named_const.statement Cert.KernelIdeal.κ "mask" .f32 0xCE6E6B28#32 ⊥ rfl

/-- The facts that the printed precondition states of the whole arrays' shapes. -/
theorem preFactsWhole : Cert.Pre_finite_scores_ReferenceIdeal.Facts where
  bcast_S_S2x2048x768 := by decide
  reducesTo_S2x2048x768_S_d0_1_2 := by decide
  h_S_ := by decide
  bcast_S_S768x2048 := by decide
  reducesTo_S768x2048_S_d0_1 := by decide
  bcast_S_S2x512x32x64 := by decide
  reducesTo_S2x512x32x64_S_d0_1_2_3 := by decide

/-- The certificate's claims. -/
theorem claim : Cert.Claim :=
  ⟨Cert.Kernel.Gen.facts, Cert.KernelIdeal.Gen.facts, Cert.ReferenceIdeal.Gen.facts, Cert.Ring.preFacts, preFactsWhole,
    Cert.Ring.frame_kernel, Cert.Ring.frame_ideal, fun m g _ => Cert.Ring.frame_ideal m g trivial, frame_reference,
    fun m g _ => frame_reference m g trivial, preserves, Cert.Ring.algebraic⟩

end Cert.Proof

end
